-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x512 : Shape := ⟨2, ![4096, 512]⟩
abbrev S16x256x4096 : Shape := ⟨3, ![16, 256, 4096]⟩
abbrev S15 : Shape := ⟨1, ![15]⟩
abbrev S_ : Shape := ⟨0, ![]⟩
abbrev S1x256x4096 : Shape := ⟨3, ![1, 256, 4096]⟩
abbrev S1 : Shape := ⟨1, ![1]⟩
abbrev S1x128x4096 : Shape := ⟨3, ![1, 128, 4096]⟩
abbrev S128x4096 : Shape := ⟨2, ![128, 4096]⟩
abbrev S128x512 : Shape := ⟨2, ![128, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x4096, .bf16⟩
  | .hbm, ⟨1, _⟩ => ⟨S4096x512, .bf16⟩
  | .hbm, ⟨2, _⟩ => ⟨S4096x512, .f32⟩
  | .local _ .vmem, ⟨0, _⟩ => ⟨S256x4096, .bf16⟩
  | .local _ .vmem, ⟨1, _⟩ => ⟨S4096x512, .bf16⟩
  | .local _ .vmem, ⟨2, _⟩ => ⟨S4096x512, .f32⟩
  | .local _ .vmem, ⟨3, _⟩ => ⟨S16x256x4096, .bf16⟩
  | .local _ .vmem, ⟨4, _⟩ => ⟨S4096x512, .bf16⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  (ofTc nBuf bufTy 1 63 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_79 : BitVec 32 := 1#32
  let v94 : BitVec 32 := Scalar.muli v92 c1_i32_79
  let v95 : BitVec 32 := Scalar.addi c0_i32_80 v94
  v95.toNat
def k0_dev2 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_82 : BitVec 32 := 1#32
  let v96 : BitVec 32 := Scalar.muli v62 c1_i32_82
  let v97 : BitVec 32 := Scalar.addi c0_i32_83 v96
  v97.toNat
def k0_dev3 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_93 : BitVec 32 := 1#32
  let v103 : BitVec 32 := Scalar.muli v62 c1_i32_93
  let v104 : BitVec 32 := Scalar.addi c0_i32_94 v103
  v104.toNat
def k0_dev4 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_103 : BitVec 32 := 1#32
  let v113 : BitVec 32 := Scalar.muli v92 c1_i32_103
  let v114 : BitVec 32 := Scalar.addi c0_i32_104 v113
  v114.toNat
def k0_dev5 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_112 : BitVec 32 := 1#32
  let v123 : BitVec 32 := Scalar.muli v62 c1_i32_112
  let v124 : BitVec 32 := Scalar.addi c0_i32_113 v123
  v124.toNat
def k0_dev6 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_122 : BitVec 32 := 1#32
  let v133 : BitVec 32 := Scalar.muli v92 c1_i32_122
  let v134 : BitVec 32 := Scalar.addi c0_i32_123 v133
  v134.toNat
def k0_off1 (d0 : Dev nD) (c0_i32_132 : BitVec 32) (c0_i32_175 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c4_i32_15 : BitVec 32 := 4#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c12_i32_11 : BitVec 32 := 12#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c5_i32_8 : BitVec 32 := 5#32
  let c10_i32 : BitVec 32 := 10#32
  let v21 : BitVec 1 := Scalar.cmpi .eq v2 c10_i32
  let c10_i32_7 : BitVec 32 := 10#32
  let c9_i32_6 : BitVec 32 := 9#32
  let v19 : BitVec 1 := Scalar.cmpi .eq v2 c9_i32_6
  let c13_i32 : BitVec 32 := 13#32
  let c8_i32_4 : BitVec 32 := 8#32
  let v17 : BitVec 1 := Scalar.cmpi .eq v2 c8_i32_4
  let c2_i32_5 : BitVec 32 := 2#32
  let c7_i32_2 : BitVec 32 := 7#32
  let v15 : BitVec 1 := Scalar.cmpi .eq v2 c7_i32_2
  let c6_i32_3 : BitVec 32 := 6#32
  let c6_i32 : BitVec 32 := 6#32
  let v13 : BitVec 1 := Scalar.cmpi .eq v2 c6_i32
  let c9_i32 : BitVec 32 := 9#32
  let c5_i32 : BitVec 32 := 5#32
  let v11 : BitVec 1 := Scalar.cmpi .eq v2 c5_i32
  let c14_i32 : BitVec 32 := 14#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c7_i32 : BitVec 32 := 7#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c15_i32 : BitVec 32 := 15#32
  let c0_i32 : BitVec 32 := 0#32
  let v4 : BitVec 32 := Scalar.select v3 c15_i32 c0_i32
  let v6 : BitVec 32 := Scalar.select v5 c8_i32 v4
  let v8 : BitVec 32 := Scalar.select v7 c7_i32 v6
  let v10 : BitVec 32 := Scalar.select v9 c1_i32_1 v8
  let v12 : BitVec 32 := Scalar.select v11 c14_i32 v10
  let v14 : BitVec 32 := Scalar.select v13 c9_i32 v12
  let v16 : BitVec 32 := Scalar.select v15 c6_i32_3 v14
  let v18 : BitVec 32 := Scalar.select v17 c2_i32_5 v16
  let v20 : BitVec 32 := Scalar.select v19 c13_i32 v18
  let v22 : BitVec 32 := Scalar.select v21 c10_i32_7 v20
  let v24 : BitVec 32 := Scalar.select v23 c5_i32_8 v22
  let v26 : BitVec 32 := Scalar.select v25 c3_i32_9 v24
  let v28 : BitVec 32 := Scalar.select v27 c12_i32_11 v26
  let v30 : BitVec 32 := Scalar.select v29 c11_i32_13 v28
  let v32 : BitVec 32 := Scalar.select v31 c4_i32_15 v30
  let v148 : BitVec 32 := Scalar.subi v32 c0_i32_132
  let c16_i32_133 : BitVec 32 := 16#32
  let c0_i32_134 : BitVec 32 := 0#32
  let v149 : BitVec 1 := Scalar.cmpi .eq c16_i32_133 c0_i32_134
  let c1_i32_135 : BitVec 32 := 1#32
  let v150 : BitVec 32 := Scalar.select v149 c1_i32_135 c16_i32_133
  let v151 : BitVec 32 := Scalar.remsi v148 v150
  let c0_i32_137 : BitVec 32 := 0#32
  let v153 : BitVec 1 := Scalar.cmpi .slt v151 c0_i32_137
  let c0_i32_138 : BitVec 32 := 0#32
  let v154 : BitVec 1 := Scalar.cmpi .slt v150 c0_i32_138
  let v155 : BitVec 1 := Scalar.xori v153 v154
  let c0_i32_136 : BitVec 32 := 0#32
  let v152 : BitVec 1 := Scalar.cmpi .ne v151 c0_i32_136
  let v156 : BitVec 1 := Scalar.andi v155 v152
  let v157 : BitVec 32 := Scalar.addi v151 v150
  let v158 : BitVec 32 := Scalar.select v156 v157 v151
  let c15_i32_168 : BitVec 32 := 15#32
  let v187 : BitVec 1 := Scalar.cmpi .eq v158 c15_i32_168
  let c1_i32_169 : BitVec 32 := 1#32
  let c14_i32_166 : BitVec 32 := 14#32
  let v185 : BitVec 1 := Scalar.cmpi .eq v158 c14_i32_166
  let c5_i32_167 : BitVec 32 := 5#32
  let c13_i32_164 : BitVec 32 := 13#32
  let v183 : BitVec 1 := Scalar.cmpi .eq v158 c13_i32_164
  let c9_i32_165 : BitVec 32 := 9#32
  let c12_i32_162 : BitVec 32 := 12#32
  let v181 : BitVec 1 := Scalar.cmpi .eq v158 c12_i32_162
  let c13_i32_163 : BitVec 32 := 13#32
  let c11_i32_160 : BitVec 32 := 11#32
  let v179 : BitVec 1 := Scalar.cmpi .eq v158 c11_i32_160
  let c14_i32_161 : BitVec 32 := 14#32
  let c10_i32_158 : BitVec 32 := 10#32
  let v177 : BitVec 1 := Scalar.cmpi .eq v158 c10_i32_158
  let c10_i32_159 : BitVec 32 := 10#32
  let c9_i32_156 : BitVec 32 := 9#32
  let v175 : BitVec 1 := Scalar.cmpi .eq v158 c9_i32_156
  let c6_i32_157 : BitVec 32 := 6#32
  let c8_i32_154 : BitVec 32 := 8#32
  let v173 : BitVec 1 := Scalar.cmpi .eq v158 c8_i32_154
  let c2_i32_155 : BitVec 32 := 2#32
  let c7_i32_152 : BitVec 32 := 7#32
  let v171 : BitVec 1 := Scalar.cmpi .eq v158 c7_i32_152
  let c3_i32_153 : BitVec 32 := 3#32
  let c6_i32_150 : BitVec 32 := 6#32
  let v169 : BitVec 1 := Scalar.cmpi .eq v158 c6_i32_150
  let c7_i32_151 : BitVec 32 := 7#32
  let c5_i32_148 : BitVec 32 := 5#32
  let v167 : BitVec 1 := Scalar.cmpi .eq v158 c5_i32_148
  let c11_i32_149 : BitVec 32 := 11#32
  let c4_i32_146 : BitVec 32 := 4#32
  let v165 : BitVec 1 := Scalar.cmpi .eq v158 c4_i32_146
  let c15_i32_147 : BitVec 32 := 15#32
  let c3_i32_144 : BitVec 32 := 3#32
  let v163 : BitVec 1 := Scalar.cmpi .eq v158 c3_i32_144
  let c12_i32_145 : BitVec 32 := 12#32
  let c2_i32_142 : BitVec 32 := 2#32
  let v161 : BitVec 1 := Scalar.cmpi .eq v158 c2_i32_142
  let c8_i32_143 : BitVec 32 := 8#32
  let c1_i32_139 : BitVec 32 := 1#32
  let v159 : BitVec 1 := Scalar.cmpi .eq v158 c1_i32_139
  let c4_i32_140 : BitVec 32 := 4#32
  let c0_i32_141 : BitVec 32 := 0#32
  let v160 : BitVec 32 := Scalar.select v159 c4_i32_140 c0_i32_141
  let v162 : BitVec 32 := Scalar.select v161 c8_i32_143 v160
  let v164 : BitVec 32 := Scalar.select v163 c12_i32_145 v162
  let v166 : BitVec 32 := Scalar.select v165 c15_i32_147 v164
  let v168 : BitVec 32 := Scalar.select v167 c11_i32_149 v166
  let v170 : BitVec 32 := Scalar.select v169 c7_i32_151 v168
  let v172 : BitVec 32 := Scalar.select v171 c3_i32_153 v170
  let v174 : BitVec 32 := Scalar.select v173 c2_i32_155 v172
  let v176 : BitVec 32 := Scalar.select v175 c6_i32_157 v174
  let v178 : BitVec 32 := Scalar.select v177 c10_i32_159 v176
  let v180 : BitVec 32 := Scalar.select v179 c14_i32_161 v178
  let v182 : BitVec 32 := Scalar.select v181 c13_i32_163 v180
  let v184 : BitVec 32 := Scalar.select v183 c9_i32_165 v182
  let v186 : BitVec 32 := Scalar.select v185 c5_i32_167 v184
  let v188 : BitVec 32 := Scalar.select v187 c1_i32_169 v186
  let c256_i32 : BitVec 32 := 256#32
  let v193 : BitVec 32 := Scalar.muli v188 c256_i32
  let v194 : BitVec 32 := Scalar.addi v193 c0_i32_175
  let v197 : Index := Scalar.indexCast v194
  let c0_177 : Index := 0#32
  ![v197.toNat, 0]
def k0_dev7 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_239 : BitVec 32 := 1#32
  let v258 : BitVec 32 := Scalar.muli v62 c1_i32_239
  let v259 : BitVec 32 := Scalar.addi c0_i32_240 v258
  v259.toNat
def k0_dev8 (d0 : Dev nD) : Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_259 : BitVec 32 := 1#32
  let v276 : BitVec 32 := Scalar.muli v92 c1_i32_259
  let v277 : BitVec 32 := Scalar.addi c0_i32_260 v276
  v277.toNat
def k0_dev9 (d0 : Dev nD) : Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_373 : BitVec 32 := 1#32
  let v396 : BitVec 32 := Scalar.muli v62 c1_i32_373
  let v397 : BitVec 32 := Scalar.addi c0_i32_374 v396
  v397.toNat
def k0_dev10 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_393 : BitVec 32 := 1#32
  let v414 : BitVec 32 := Scalar.muli v92 c1_i32_393
  let v415 : BitVec 32 := Scalar.addi c0_i32_394 v414
  v415.toNat
def k0_dev11 (d0 : Dev nD) : Nat :=
  let c0_i32_510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_509 : BitVec 32 := 1#32
  let v534 : BitVec 32 := Scalar.muli v62 c1_i32_509
  let v535 : BitVec 32 := Scalar.addi c0_i32_510 v534
  v535.toNat
def k0_dev12 (d0 : Dev nD) : Nat :=
  let c0_i32_530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_529 : BitVec 32 := 1#32
  let v552 : BitVec 32 := Scalar.muli v92 c1_i32_529
  let v553 : BitVec 32 := Scalar.addi c0_i32_530 v552
  v553.toNat
def k0_dev13 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_643 : BitVec 32 := 1#32
  let v672 : BitVec 32 := Scalar.muli v62 c1_i32_643
  let v673 : BitVec 32 := Scalar.addi c0_i32_644 v672
  v673.toNat
def k0_dev14 (d0 : Dev nD) : Nat :=
  let c0_i32_664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_663 : BitVec 32 := 1#32
  let v690 : BitVec 32 := Scalar.muli v92 c1_i32_663
  let v691 : BitVec 32 := Scalar.addi c0_i32_664 v690
  v691.toNat
def k0_dev15 (d0 : Dev nD) : Nat :=
  let c0_i32_780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_779 : BitVec 32 := 1#32
  let v810 : BitVec 32 := Scalar.muli v62 c1_i32_779
  let v811 : BitVec 32 := Scalar.addi c0_i32_780 v810
  v811.toNat
def k0_dev16 (d0 : Dev nD) : Nat :=
  let c0_i32_800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_799 : BitVec 32 := 1#32
  let v828 : BitVec 32 := Scalar.muli v92 c1_i32_799
  let v829 : BitVec 32 := Scalar.addi c0_i32_800 v828
  v829.toNat
def k0_dev17 (d0 : Dev nD) : Nat :=
  let c0_i32_914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_913 : BitVec 32 := 1#32
  let v948 : BitVec 32 := Scalar.muli v62 c1_i32_913
  let v949 : BitVec 32 := Scalar.addi c0_i32_914 v948
  v949.toNat
def k0_dev18 (d0 : Dev nD) : Nat :=
  let c0_i32_934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_933 : BitVec 32 := 1#32
  let v966 : BitVec 32 := Scalar.muli v92 c1_i32_933
  let v967 : BitVec 32 := Scalar.addi c0_i32_934 v966
  v967.toNat
def k0_dev19 (d0 : Dev nD) : Nat :=
  let c0_i32_1050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1049 : BitVec 32 := 1#32
  let v1086 : BitVec 32 := Scalar.muli v62 c1_i32_1049
  let v1087 : BitVec 32 := Scalar.addi c0_i32_1050 v1086
  v1087.toNat
def k0_dev20 (d0 : Dev nD) : Nat :=
  let c0_i32_1070 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1069 : BitVec 32 := 1#32
  let v1104 : BitVec 32 := Scalar.muli v92 c1_i32_1069
  let v1105 : BitVec 32 := Scalar.addi c0_i32_1070 v1104
  v1105.toNat
def k0_dev21 (d0 : Dev nD) : Nat :=
  let c0_i32_1184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1183 : BitVec 32 := 1#32
  let v1224 : BitVec 32 := Scalar.muli v62 c1_i32_1183
  let v1225 : BitVec 32 := Scalar.addi c0_i32_1184 v1224
  v1225.toNat
def k0_dev22 (d0 : Dev nD) : Nat :=
  let c0_i32_1204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1203 : BitVec 32 := 1#32
  let v1242 : BitVec 32 := Scalar.muli v92 c1_i32_1203
  let v1243 : BitVec 32 := Scalar.addi c0_i32_1204 v1242
  v1243.toNat
def k0_dev23 (d0 : Dev nD) : Nat :=
  let c0_i32_1320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1319 : BitVec 32 := 1#32
  let v1362 : BitVec 32 := Scalar.muli v62 c1_i32_1319
  let v1363 : BitVec 32 := Scalar.addi c0_i32_1320 v1362
  v1363.toNat
def k0_dev24 (d0 : Dev nD) : Nat :=
  let c0_i32_1340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1339 : BitVec 32 := 1#32
  let v1380 : BitVec 32 := Scalar.muli v92 c1_i32_1339
  let v1381 : BitVec 32 := Scalar.addi c0_i32_1340 v1380
  v1381.toNat
def k0_dev25 (d0 : Dev nD) : Nat :=
  let c0_i32_1454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1453 : BitVec 32 := 1#32
  let v1500 : BitVec 32 := Scalar.muli v62 c1_i32_1453
  let v1501 : BitVec 32 := Scalar.addi c0_i32_1454 v1500
  v1501.toNat
def k0_dev26 (d0 : Dev nD) : Nat :=
  let c0_i32_1474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1473 : BitVec 32 := 1#32
  let v1518 : BitVec 32 := Scalar.muli v92 c1_i32_1473
  let v1519 : BitVec 32 := Scalar.addi c0_i32_1474 v1518
  v1519.toNat
def k0_dev27 (d0 : Dev nD) : Nat :=
  let c0_i32_1590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1589 : BitVec 32 := 1#32
  let v1638 : BitVec 32 := Scalar.muli v62 c1_i32_1589
  let v1639 : BitVec 32 := Scalar.addi c0_i32_1590 v1638
  v1639.toNat
def k0_dev28 (d0 : Dev nD) : Nat :=
  let c0_i32_1610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1609 : BitVec 32 := 1#32
  let v1656 : BitVec 32 := Scalar.muli v92 c1_i32_1609
  let v1657 : BitVec 32 := Scalar.addi c0_i32_1610 v1656
  v1657.toNat
def k0_dev29 (d0 : Dev nD) : Nat :=
  let c0_i32_1724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1723 : BitVec 32 := 1#32
  let v1776 : BitVec 32 := Scalar.muli v62 c1_i32_1723
  let v1777 : BitVec 32 := Scalar.addi c0_i32_1724 v1776
  v1777.toNat
def k0_dev30 (d0 : Dev nD) : Nat :=
  let c0_i32_1744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1743 : BitVec 32 := 1#32
  let v1794 : BitVec 32 := Scalar.muli v92 c1_i32_1743
  let v1795 : BitVec 32 := Scalar.addi c0_i32_1744 v1794
  v1795.toNat
def k0_dev31 (d0 : Dev nD) : Nat :=
  let c0_i32_1860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c2_i32_22 : BitVec 32 := 2#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c0_i32_17 : BitVec 32 := 0#32
  let c4_i32_18 : BitVec 32 := 4#32
  let v34 : BitVec 32 := Scalar.select v33 c0_i32_17 c4_i32_18
  let v36 : BitVec 32 := Scalar.select v35 c6_i32_20 v34
  let v38 : BitVec 32 := Scalar.select v37 c2_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c15_i32_40 v54
  let v58 : BitVec 32 := Scalar.select v57 c9_i32_42 v56
  let v60 : BitVec 32 := Scalar.select v59 c13_i32_44 v58
  let v62 : BitVec 32 := Scalar.select v61 c11_i32_46 v60
  let c1_i32_1859 : BitVec 32 := 1#32
  let v1914 : BitVec 32 := Scalar.muli v62 c1_i32_1859
  let v1915 : BitVec 32 := Scalar.addi c0_i32_1860 v1914
  v1915.toNat
def k0_dev32 (d0 : Dev nD) : Nat :=
  let c0_i32_1880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c14_i32_73 : BitVec 32 := 14#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c3_i32_51 : BitVec 32 := 3#32
  let c1_i32_47 : BitVec 32 := 1#32
  let v63 : BitVec 1 := Scalar.cmpi .eq v2 c1_i32_47
  let c5_i32_48 : BitVec 32 := 5#32
  let c1_i32_49 : BitVec 32 := 1#32
  let v64 : BitVec 32 := Scalar.select v63 c5_i32_48 c1_i32_49
  let v66 : BitVec 32 := Scalar.select v65 c3_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c14_i32_73 v86
  let v90 : BitVec 32 := Scalar.select v89 c10_i32_75 v88
  let v92 : BitVec 32 := Scalar.select v91 c12_i32_77 v90
  let c1_i32_1879 : BitVec 32 := 1#32
  let v1932 : BitVec 32 := Scalar.muli v92 c1_i32_1879
  let v1933 : BitVec 32 := Scalar.addi c0_i32_1880 v1932
  v1933.toNat
abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Prog.lean ====
/-
  The kernel's body as a sequence of parametric steps. Message `i` (thirty of them) is the clockwise hop `i / 2` when
  `i` is even and the counter-clockwise hop `i / 2` when it is odd; piece `p` (thirty-two of them) is a half of one
  gather slot. `body_eq` says that the printed body IS that sequence.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

noncomputable section

namespace Cert.KernelIdeal.AG

open Cert.KernelIdeal Cert.KernelIdeal.Gen
open Idealize.ShloMosaic Idealize.ShloMosaic.TcCoe
open Idealize.SL Idealize.SL.Sem

variable {F : FTy → Type} [FloatOps F]

/-! ### The buffers -/

abbrev xM : Memref sig .tc .vmem S256x4096 .bf16 := Memref.whole cc0_stg0_0
abbrev wM : Memref sig .tc .vmem S4096x512 .bf16 := Memref.whole cc0_stg1_0
abbrev oM : Memref sig .tc .vmem S4096x512 .f32 := Memref.whole cc0_stg2_0
abbrev gM : Memref sig .tc .vmem S16x256x4096 .bf16 := Memref.whole cc0_scratch0
abbrev wbM : Memref sig .tc .vmem S4096x512 .bf16 := Memref.whole cc0_scratch1

/-! ### The messages' slots, halves, semaphores and targets -/

/-- The slot message `i` is read from. -/
abbrev srcS (i : Fin 30) : Fin 16 := if i.val % 2 = 0 then ⟨i.val / 4, by omega⟩ else ⟨(16 - i.val / 4) % 16, by omega⟩
/-- The slot message `i` lands in. -/
abbrev dstS (i : Fin 30) : Fin 16 := if i.val % 2 = 0 then ⟨i.val / 4 + 1, by omega⟩ else ⟨15 - i.val / 4, by omega⟩
/-- The half of a slot that message `i` moves. -/
abbrev hfM (i : Fin 30) : Fin 2 := ⟨(i.val / 2 + i.val % 2) % 2, by omega⟩

/-- The semaphore the sender of message `i` waits on. -/
def sSem (i : Fin 30) : DmaSem sig := ⟨(if i.val % 2 = 0 then 3 else 33) + i.val / 2, by have : sig.nDmaSem = 63 := rfl; split <;> omega⟩
/-- The semaphore the receiver of message `i` waits on. -/
def rSem (i : Fin 30) : DmaSem sig := ⟨(if i.val % 2 = 0 then 18 else 48) + i.val / 2, by have : sig.nDmaSem = 63 := rfl; split <;> omega⟩

/-- The barrier semaphore. -/
abbrev barS : Sem sig := sig.barrier 0 rfl

/-- The device message `i` of device `d` goes to, as the body computes it. -/
def tgt (d : Dev nD) (i : Fin 30) : Dev nD :=
  match i.val with
  | 0 => ⟨k0_dev3 d, k0_dev3_lt d⟩
  | 1 => ⟨k0_dev4 d, k0_dev4_lt d⟩
  | 2 => ⟨k0_dev5 d, k0_dev5_lt d⟩
  | 3 => ⟨k0_dev6 d, k0_dev6_lt d⟩
  | 4 => ⟨k0_dev7 d, k0_dev7_lt d⟩
  | 5 => ⟨k0_dev8 d, k0_dev8_lt d⟩
  | 6 => ⟨k0_dev9 d, k0_dev9_lt d⟩
  | 7 => ⟨k0_dev10 d, k0_dev10_lt d⟩
  | 8 => ⟨k0_dev11 d, k0_dev11_lt d⟩
  | 9 => ⟨k0_dev12 d, k0_dev12_lt d⟩
  | 10 => ⟨k0_dev13 d, k0_dev13_lt d⟩
  | 11 => ⟨k0_dev14 d, k0_dev14_lt d⟩
  | 12 => ⟨k0_dev15 d, k0_dev15_lt d⟩
  | 13 => ⟨k0_dev16 d, k0_dev16_lt d⟩
  | 14 => ⟨k0_dev17 d, k0_dev17_lt d⟩
  | 15 => ⟨k0_dev18 d, k0_dev18_lt d⟩
  | 16 => ⟨k0_dev19 d, k0_dev19_lt d⟩
  | 17 => ⟨k0_dev20 d, k0_dev20_lt d⟩
  | 18 => ⟨k0_dev21 d, k0_dev21_lt d⟩
  | 19 => ⟨k0_dev22 d, k0_dev22_lt d⟩
  | 20 => ⟨k0_dev23 d, k0_dev23_lt d⟩
  | 21 => ⟨k0_dev24 d, k0_dev24_lt d⟩
  | 22 => ⟨k0_dev25 d, k0_dev25_lt d⟩
  | 23 => ⟨k0_dev26 d, k0_dev26_lt d⟩
  | 24 => ⟨k0_dev27 d, k0_dev27_lt d⟩
  | 25 => ⟨k0_dev28 d, k0_dev28_lt d⟩
  | 26 => ⟨k0_dev29 d, k0_dev29_lt d⟩
  | 27 => ⟨k0_dev30 d, k0_dev30_lt d⟩
  | 28 => ⟨k0_dev31 d, k0_dev31_lt d⟩
  | _ => ⟨k0_dev32 d, k0_dev32_lt d⟩

theorem pinb (k : Fin 16) (h : Fin 2) : ∀ a, (![k.val, 128 * h.val, 0] : Fin 3 → Nat) a + S1x128x4096.size a ≤ S16x256x4096.size a := by
  revert k h; decide

theorem pwords (k : Fin 16) (h : Fin 2) :
    (Rect.unit (s := S16x256x4096) ![k.val, 128 * h.val, 0] S1x128x4096.size (pinb k h)).WholeWords (EltTy.packing .bf16) := by
  revert k h; decide +kernel

/-- Half `h` of gather slot `k`, as a copy names it. -/
abbrev pieceV (k : Fin 16) (h : Fin 2) : Memref sig .tc .vmem S128x4096 .bf16 :=
  (gM.slice (Rect.unit (s := S16x256x4096) ![k.val, 128 * h.val, 0] S1x128x4096.size (pinb k h)) (fun _ => rfl)).squeeze
    S128x4096 squeezes_S1x128x4096_S128x4096

theorem pieceWE (k : Fin 16) (h : Fin 2) : (pieceV k h).view.WordExact :=
  ((Memref.isWhole_whole cc0_scratch0).wordExact_slice rfl _ (pwords k h)).reshape _ _

/-! ### The steps -/

abbrev P (F : FTy → Type) := Prog (TpuEff nD τ sig (Elt F) Λ₀ .tc) PUnit

/-- Message `i` sent. -/
def send (d : Dev nD) (i : Fin 30) (k : P F) : P F :=
  .op (.enqueueDma (pieceV (srcS i) (hfM i)) (.remote (Dev.tc (tgt d i)) (pieceV (dstS i) (hfM i)) (.dma (sSem i))) (.dma (rSem i))
    (pieceWE _ _) (pieceWE _ _) ⟨⟨rfl, Or.inl rfl⟩, trivial⟩) fun _ => k

/-- Message `i`'s arrival waited for. -/
def recv (i : Fin 30) (k : P F) : P F :=
  .op (.waitDma2 (rSem i) (pieceV (srcS i) (hfM i)) (pieceV (dstS i) (hfM i)) (pieceWE _ _) (pieceWE _ _)) fun _ => k

/-- The departure of message `i` waited for. -/
def drain (i : Fin 30) (k : P F) : P F :=
  .op (.waitDma2 (sSem i) (pieceV (srcS i) (hfM i)) (pieceV (dstS i) (hfM i)) (pieceWE _ _) (pieceWE _ _)) fun _ => k

/-- The product stored for one half slot. -/
abbrev prod (v : Vec F S1x128x4096 .bf16) (w : Vec F S4096x512 .bf16) : FVec F S128x512 .f32 := k0_pay3 v w

/-- One half slot multiplied, the product stored at its rows of the result. -/
def comp (d : Dev nD) (k : Fin 16) (h : Fin 2) (rest : P F) : P F :=
  .op (.load gM (Rect.unit (s := S16x256x4096) ![k.val, 128 * h.val, 0] S1x128x4096.size (pinb k h)).toLoadRect (View.loadsAt_vmem h_S1x128x4096))
    fun v => .op (.load wbM (Rect.unit (s := S4096x512) ![0, 0] S4096x512.size inb_S4096x512_S4096x512_0_0).toLoadRect (View.loadsAt_vmem h_S4096x512))
    fun w => .op (.load oM (Rect.unit (s := S4096x512) (k0_off1 d (BitVec.ofNat 32 k.val) (BitVec.ofNat 32 (128 * h.val))) S128x512.size (k0_off1_inb d k h)).toLoadRect (View.loadsAt_vmem h_S128x512))
    fun _ => .op (.store oM (Rect.unit (s := S4096x512) (k0_off1 d (BitVec.ofNat 32 k.val) (BitVec.ofNat 32 (128 * h.val))) S128x512.size (k0_off1_inb d k h)) (prod v w) Finset.univ (View.stores_vmem_bits_univ h_S128x512 rfl) (.inl rfl))
    fun _ => rest

/-- Message `i` waited for, the next message of its direction sent on, and the same for message `i + 1`. -/
def hop (d : Dev nD) (i : Fin 26) (hi : i.val + 1 < 26) (k : P F) : P F :=
  recv ⟨i.val, by omega⟩ <| send d ⟨i.val + 4, by omega⟩ <| recv ⟨i.val + 1, by omega⟩ <| send d ⟨i.val + 5, by omega⟩ k

/-- The two halves that messages `i` and `i + 1` brought, multiplied. -/
def comp2 (d : Dev nD) (i : Fin 30) (hi : i.val + 1 < 30) (k : P F) : P F :=
  comp d (dstS i) (hfM i) <| comp d (dstS ⟨i.val + 1, hi⟩) (hfM ⟨i.val + 1, hi⟩) k

/-- The barrier: one signal to each neighbour, two awaited. -/
def barrier (d : Dev nD) (k : P F) : P F :=
  .op (.semSignal (Dev.tc (⟨k0_dev1 d, k0_dev1_lt d⟩ : Dev nD)) barS 1) fun _ =>
  .op (.semSignal (Dev.tc (⟨k0_dev2 d, k0_dev2_lt d⟩ : Dev nD)) barS 1) fun _ =>
  .op (.semWait barS 2) fun _ => k

/-- The device's own block put in slot 0. -/
def fill (k : P F) : P F :=
  .op (.load xM (Rect.unit (s := S256x4096) ![0, 0] S256x4096.size inb_S256x4096_S256x4096_0_0).toLoadRect (View.loadsAt_vmem h_S256x4096)) fun v =>
  .op (.load gM (Rect.unit (s := S16x256x4096) ![0, 0, 0] S1x256x4096.size inb_S16x256x4096_S1x256x4096_0_0_0).toLoadRect (View.loadsAt_vmem h_S1x256x4096)) fun _ =>
  .op (.store gM (Rect.unit (s := S16x256x4096) ![0, 0, 0] S1x256x4096.size inb_S16x256x4096_S1x256x4096_0_0_0) (k0_pay1 v) Finset.univ (View.stores_vmem h_S1x256x4096 ((Memref.isWhole_whole cc0_scratch0).storeExact_slice rfl _ packedbf16_S16x256x4096_S1x256x4096_0_0_0) (fun _ => rfl)) (.inl rfl)) fun _ => k

/-- The weight block copied. -/
def wcopy (k : P F) : P F :=
  .op (.load wM (Rect.unit (s := S4096x512) ![0, 0] S4096x512.size inb_S4096x512_S4096x512_0_0).toLoadRect (View.loadsAt_vmem h_S4096x512)) fun v =>
  .op (.load wbM (Rect.unit (s := S4096x512) ![0, 0] S4096x512.size inb_S4096x512_S4096x512_0_0).toLoadRect (View.loadsAt_vmem h_S4096x512)) fun _ =>
  .op (.store wbM (Rect.unit (s := S4096x512) ![0, 0] S4096x512.size inb_S4096x512_S4096x512_0_0) (k0_pay2 v) Finset.univ (View.stores_vmem h_S4096x512 ((Memref.isWhole_whole cc0_scratch1).storeExact_slice rfl _ packedbf16_S4096x512_S4096x512_0_0) (fun _ => rfl)) (.inl rfl)) fun _ => k

/-- What follows the loop: the departures awaited. -/
def drains : P F :=
  drain 0 <|
  drain 1 <|
  drain 2 <|
  drain 3 <|
  drain 4 <|
  drain 5 <|
  drain 6 <|
  drain 7 <|
  drain 8 <|
  drain 9 <|
  drain 10 <|
  drain 11 <|
  drain 12 <|
  drain 13 <|
  drain 14 <|
  drain 15 <|
  drain 16 <|
  drain 17 <|
  drain 18 <|
  drain 19 <|
  drain 20 <|
  drain 21 <|
  drain 22 <|
  drain 23 <|
  drain 24 <|
  drain 25 <|
  drain 26 <|
  drain 27 <|
  drain 28 <|
  drain 29 <|
  .ret ⟨⟩

/-- The loop: messages waited for, sent on, multiplied. -/
def loop (d : Dev nD) : P F :=
  hop d 0 (by decide) <| comp2 d 0 (by decide) <|
  hop d 2 (by decide) <| comp2 d 2 (by decide) <|
  hop d 4 (by decide) <| comp2 d 4 (by decide) <|
  hop d 6 (by decide) <| comp2 d 6 (by decide) <|
  hop d 8 (by decide) <| comp2 d 8 (by decide) <|
  hop d 10 (by decide) <| comp2 d 10 (by decide) <|
  hop d 12 (by decide) <| comp2 d 12 (by decide) <|
  hop d 14 (by decide) <| comp2 d 14 (by decide) <|
  hop d 16 (by decide) <| comp2 d 16 (by decide) <|
  hop d 18 (by decide) <| comp2 d 18 (by decide) <|
  hop d 20 (by decide) <| comp2 d 20 (by decide) <|
  hop d 22 (by decide) <| comp2 d 22 (by decide) <|
  hop d 24 (by decide) <| comp2 d 24 (by decide) <|
  recv 26 <| recv 27 <| comp2 d 26 (by decide) <|
  recv 28 <| recv 29 <| comp2 d 28 (by decide) <|
  drains

/-- The whole body. -/
def prog : P F :=
  .op .deviceId fun d =>
  barrier d <| fill <| send d 0 <| send d 1 <| send d 2 <| send d 3 <| wcopy <| comp d 0 0 <| comp d 0 1 <| loop d

set_option maxRecDepth 65536 in
/-- The printed body is that sequence. -/
theorem body_eq : bodyAt0 (F := F) t0_0 = prog (F := F) := by
  chain_rfl

end Cert.KernelIdeal.AG

end
-- ==== Proof.Proto.lean ====
/-
  The protocol of the two-way ring. One round for every cell: a device's barrier cell has two duties, one paid by each
  neighbour together with the slots that neighbour lets it write; a receive cell has one, paid by the copy that lands
  there; a send cell has one, paid by the device's own copy when it has left, together with the piece that was lent to it.
-/
module

public import proofs.«01_k».proof.Proof.Prog
public import Idealize.ShloMosaic.Lib.Pipeline.Launch
public import Idealize.ShloMosaic.Lib.Pipeline.Kit
public import Idealize.ShloMosaic.Lib.ValueLayout
public import Idealize.ShloMosaic.Lib.Pipeline.ValueKit.Geometry
public import Idealize.ShloMosaic.Lib.Tactic

@[expose] public section

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 idx2_lt0)
open Idealize.ShloMosaic.Pipeline (Dat Cfg Window BodyObligation cellOf)

variable {F : FTy → Type} [FloatOps F]

/-! ### The resources -/

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

abbrev 𝒱₀ : Variants := Variants.none

/-! ### The ring -/

/-- The device at a place of the ring. -/
def perm (k : Fin 16) : Dev nD := (![0, 4, 8, 12, 15, 11, 7, 3, 2, 6, 10, 14, 13, 9, 5, 1] : Fin 16 → Fin 16) k
/-- The place of a device. -/
def place (c : Dev nD) : Fin 16 := (![0, 15, 8, 7, 1, 14, 9, 6, 2, 13, 10, 5, 3, 12, 11, 4] : Fin 16 → Fin 16) c
/-- The next device clockwise. -/
def rgt (c : Dev nD) : Dev nD := perm (place c + 1)
/-- The next device counter-clockwise. -/
def lft (c : Dev nD) : Dev nD := perm (place c + 15)
/-- The device whose block slot `k` of device `c` holds at the end. -/
def blk (c : Dev nD) (k : Fin 16) : Dev nD := perm (place c - k)
/-- The slot of device `c` that holds the block of device `o` at the end. -/
def slotOf (c o : Dev nD) : Fin 16 := place c - place o

/-- The receiver of message `i` of device `c`. -/
def nbr (c : Dev nD) (i : Fin 30) : Dev nD := if i.val % 2 = 0 then rgt c else lft c

theorem perm_place (c : Dev nD) : perm (place c) = c := by revert c; decide
theorem lft_rgt (c : Dev nD) : lft (rgt c) = c := by revert c; decide
theorem rgt_lft (c : Dev nD) : rgt (lft c) = c := by revert c; decide
theorem blk_slotOf (c o : Dev nD) : blk c (slotOf c o) = o := by revert c o; decide +kernel
theorem slotOf_blk (c : Dev nD) (k : Fin 16) : slotOf c (blk c k) = k := by revert c k; decide +kernel
theorem blk_zero (c : Dev nD) : blk c 0 = c := by revert c; decide
/-- A message carries the same block at its source and where it lands. -/
theorem blk_nbr (c : Dev nD) (i : Fin 30) : blk (nbr c i) (dstS i) = blk c (srcS i) := by revert c i; decide +kernel

theorem dev1_eq (c : Dev nD) : (⟨k0_dev1 c, k0_dev1_lt c⟩ : Dev nD) = lft c := by revert c; decide +kernel
theorem dev2_eq (c : Dev nD) : (⟨k0_dev2 c, k0_dev2_lt c⟩ : Dev nD) = rgt c := by revert c; decide +kernel
theorem tgt_eq (c : Dev nD) (i : Fin 30) : tgt c i = nbr c i := by revert c i; decide +kernel

/-- The rows of the result that a half slot's product goes to. -/
theorem off1_eq (c : Dev nD) (k : Fin 16) (h : Fin 2) :
    k0_off1 c (BitVec.ofNat 32 k.val) (BitVec.ofNat 32 (128 * h.val)) = ![256 * (blk c k).val + 128 * h.val, 0] := by
  revert c k h; decide +kernel

def ringE : Dev nD ≃ Dev nD := ⟨rgt, lft, lft_rgt, rgt_lft⟩

/-- The message whose landing is what message `i + 4` sends on: the thirty-two half slots in the order they are multiplied. -/
def pk (p : Fin 32) : Fin 16 := if h : p.val < 2 then 0 else dstS ⟨p.val - 2, by omega⟩
def ph (p : Fin 32) : Fin 2 := if h : p.val < 2 then ⟨p.val, by omega⟩ else hfM ⟨p.val - 2, by omega⟩

/-- The order of the half slots, as a matching with slot and half. -/
theorem pkh_bij : Function.Bijective fun p : Fin 32 => (pk p, ph p) := by
  rw [Fintype.bijective_iff_injective_and_card]
  refine ⟨?_, rfl⟩
  intro p q; revert p q; decide +kernel
def pkh : Fin 32 ≃ Fin 16 × Fin 2 := Equiv.ofBijective _ pkh_bij

/-! ### The cells -/

inductive Kd
  | bar
  | snd (i : Fin 30)
  | rcv (i : Fin 30)
  | stg
deriving DecidableEq

/-- What a semaphore is for. -/
def kd : SemLoc sig → Kd
  | .reg _ => .bar
  | .dma q =>
    if q.val < 3 then .stg
    else if h : q.val < 18 then .snd ⟨2 * (q.val - 3), by omega⟩
    else if h : q.val < 33 then .rcv ⟨2 * (q.val - 18), by omega⟩
    else if h : q.val < 48 then .snd ⟨2 * (q.val - 33) + 1, by omega⟩
    else .rcv ⟨2 * (q.val - 48) + 1, by have := q.isLt; have : sig.nDmaSem = 63 := rfl; omega⟩

theorem kd_snd (i : Fin 30) : kd (.dma (sSem i)) = .snd i := by revert i; decide +kernel
theorem kd_rcv (i : Fin 30) : kd (.dma (rSem i)) = .rcv i := by revert i; decide +kernel
theorem kd_bar : kd (.reg barS) = .bar := rfl

abbrev barCell (c : Dev nD) : GSem nD τ sig := ((c : Thread nD τ), .reg barS)
abbrev sCell (c : Dev nD) (i : Fin 30) : GSem nD τ sig := ((c : Thread nD τ), .dma (sSem i))
abbrev rCell (c : Dev nD) (i : Fin 30) : GSem nD τ sig := ((c : Thread nD τ), .dma (rSem i))

/-- What one copy adds to its semaphores. -/
abbrev N : ℕ := (pieceV 0 0).view.dmaCredit
theorem N_pos : 0 < N := View.dmaCredit_pos _ (by decide)

/-! ### Contents -/

/-- The device's block of the activations. -/
def xstg (c : Dev nD) : (cc0_stg0_0 : Ref sig .tc).ty.Contents (Elt F) :=
  (win0_0.blk (0 : Fin 1)).view.read (Elt F) ((s₀ m ρ).mem ((c : Thread nD τ).loc main_arg0))
/-- The device's block of the weights. -/
def wstg (c : Dev nD) : (cc0_stg1_0 : Ref sig .tc).ty.Contents (Elt F) :=
  (win0_1.blk (0 : Fin 1)).view.read (Elt F) ((s₀ m ρ).mem ((c : Thread nD τ).loc main_arg1))

/-- The gathered activations as device `c` holds them at the end. -/
def gth (c : Dev nD) : (cc0_scratch0 : Ref sig .tc).ty.Contents (Elt F) := fun i =>
  xstg m ρ (blk c (i 0)) (ix2 (n0 := 256) (n1 := 4096) (i 1) (i 2))

/-- Half `h` of slot `k` of device `c` at share `q`. -/
def gp (c : Dev nD) (k : Fin 16) (h : Fin 2) (q : PosShare TreeShare) (f : (cc0_scratch0 : Ref sig .tc).ty.Contents (Elt F)) : sProp 𝕄 :=
  (pieceV k h).view.loc (c : Thread nD τ) ↦[(pieceV k h).view.set]{q} f

omit [FloatOps F] in
instance gp_storable (c : Dev nD) (k h q f) : BI.Storable (upEmb : UEmb _ 𝕄) (gp (F := F) c k h q f) := by unfold gp; infer_instance

/-- An element's place under a half slot's view. -/
theorem piece_emb (k : Fin 16) (h : Fin 2) (j : S128x4096.Idx) :
    ((pieceV k h).view.emb j : S16x256x4096.Idx)
      = ix3 (n0 := 16) (n1 := 256) (n2 := 4096) k ⟨128 * h.val + (j 0).val, by have := idx2_lt0 (n0 := 128) (n1 := 4096) j; omega⟩ (j 1) := by
  have hr : ∀ h, Shape.reshapeEquiv (s := S1x128x4096) (s' := S128x4096) h j = ix3 (n0 := 1) (n1 := 128) (n2 := 4096) 0 (j 0) (j 1) := by
    intro h
    apply Shape.reshapeEquiv_eq_of_rowMajor
    refine (Shape.rowMajor_val_three _).trans (Eq.trans ?_ (Shape.rowMajor_val_two _).symm)
    show (0 * 128 + (j 0).val) * 4096 + (j 1).val = (j 0).val * 4096 + (j 1).val
    rw [Nat.zero_mul, Nat.zero_add]
  show (((View.whole cc0_scratch0).slice (Rect.unit (s := S16x256x4096) ![k.val, 128 * h.val, 0] S1x128x4096.size (pinb k h))).emb
    (Shape.reshapeEquiv (s := S1x128x4096) (s' := S128x4096) _ j) : S16x256x4096.Idx) = _
  rw [hr]
  funext a; apply Fin.ext
  refine (ValueKit.view_emb_slice_whole_unit_val cc0_scratch0 _ _ _ _ a).trans ?_
  match a with
  | ⟨0, _⟩ => rfl
  | ⟨1, _⟩ => rfl
  | ⟨2, _⟩ => exact Nat.zero_add _

/-- A half slot's elements. -/
theorem mem_piece (k : Fin 16) (h : Fin 2) (i : S16x256x4096.Idx) :
    i ∈ ((pieceV k h).view.set : Finset S16x256x4096.Idx) ↔ i 0 = k ∧ (i 1).val / 128 = h.val := by
  have hs : ((pieceV k h).view.set : Finset S16x256x4096.Idx)
      = (Rect.unit (s := S16x256x4096) ![k.val, 128 * h.val, 0] S1x128x4096.size (pinb k h)).set :=
    (View.set_reshape _ _).trans (View.set_slice_whole _ _)
  rw [hs, Rect.mem_set_unit]
  constructor
  · intro H
    have h0 := H 0; have h1 := H 1
    change k.val ≤ (i 0).val ∧ (i 0).val < k.val + 1 at h0
    change 128 * h.val ≤ (i 1).val ∧ (i 1).val < 128 * h.val + 128 at h1
    exact ⟨Fin.ext (by omega), by omega⟩
  · rintro ⟨h0, h1⟩ a
    match a with
    | ⟨0, _⟩ =>
      show k.val ≤ (i 0).val ∧ (i 0).val < k.val + 1
      rw [h0]; omega
    | ⟨1, _⟩ =>
      show 128 * h.val ≤ (i 1).val ∧ (i 1).val < 128 * h.val + 128
      omega
    | ⟨2, _⟩ =>
      show 0 ≤ (i 2).val ∧ (i 2).val < 0 + 4096
      have := (i 2).isLt; exact ⟨Nat.zero_le _, by rw [Nat.zero_add]; exact this⟩

/-- A message lands as the gathered contents of its receiver. -/
theorem landed (c : Dev nD) (i : Fin 30) (fd : (cc0_scratch0 : Ref sig .tc).ty.Contents (Elt F)) (j : (cc0_scratch0 : Ref sig .tc).ty.Idx)
    (hj : j ∈ (pieceV (dstS i) (hfM i)).view.set) :
    (pieceV (dstS i) (hfM i)).view.write (Elt F) fd ((pieceV (srcS i) (hfM i)).view.read (Elt F) (gth m ρ c)) Finset.univ j
      = gth m ρ (nbr c i) j := by
  obtain ⟨y, rfl⟩ := View.exists_emb_of_mem_set _ hj
  rw [View.write_emb_of_mem _ _ (Finset.mem_univ y)]
  show gth m ρ c ((pieceV (srcS i) (hfM i)).view.emb y) = gth m ρ (nbr c i) ((pieceV (dstS i) (hfM i)).view.emb y)
  rw [piece_emb, piece_emb]
  show xstg m ρ (blk c (srcS i)) _ = xstg m ρ (blk (nbr c i) (dstS i)) _
  rw [blk_nbr]
  rfl

/-! ### The schedule -/

/-- The share of a piece lent to the copy that reads it. -/
def lq (u : ℕ) : PosShare TreeShare := if u < 2 then fullShare.right.left else if u < 4 then fullShare.right.right else fullShare.right

/-- What the neighbour in direction `d` lets device `c` write: the landing pieces of the messages that go there. -/
def barPay (c : Dev nD) (d : Fin 2) : sProp 𝕄 :=
  bigSep (Finset.univ.filter fun i : Fin 30 => i.val % 2 = d.val) fun i => iprop(∃ f, gp (nbr c i) (dstS i) (hfM i) fullShare f)
def rcvPay (c : Dev nD) (i : Fin 30) : sProp 𝕄 := gp c (dstS i) (hfM i) fullShare (gth m ρ c)
def sndPay (c : Dev nD) (i : Fin 30) : sProp 𝕄 := gp c (srcS i) (hfM i) (lq i.val) (gth m ρ c)

omit [FloatOps F] in
instance barPay_storable (c d) : BI.Storable (upEmb : UEmb _ 𝕄) (barPay (F := F) c d) := by unfold barPay; infer_instance
instance rcvPay_storable (c i) : BI.Storable (upEmb : UEmb _ 𝕄) (rcvPay m ρ c i) := by unfold rcvPay; infer_instance
instance sndPay_storable (c i) : BI.Storable (upEmb : UEmb _ 𝕄) (sndPay m ρ c i) := by unfold sndPay; infer_instance

def Rd : Rounds.Schedule (GSem nD τ sig) (Fin 2) 𝕄 where
  duties g r := if r = 0 ∧ g.1.2 = .tc then (match kd g.2 with | .bar => Finset.univ | .snd _ => {0} | .rcv _ => {0} | .stg => ∅) else ∅
  unitless _ := False
  amount g _ _ := match kd g.2 with | .bar => 1 | _ => N
  payload g _ d := match kd g.2 with
    | .bar => barPay g.1.1 d
    | .snd i => sndPay m ρ g.1.1 i
    | .rcv i => rcvPay m ρ g.1.1 i
    | .stg => iprop(emp)
  amount_pos g _ _ _ := by
    cases kd g.2 <;> first | exact Nat.one_pos | exact N_pos

instance Rd_storable (g : GSem nD τ sig) (r : ℕ) (d : Fin 2) : BI.Storable (upEmb : UEmb _ 𝕄) ((Rd m ρ).payload g r d) := by
  show BI.Storable upEmb (match kd g.2 with
    | .bar => barPay g.1.1 d
    | .snd i => sndPay m ρ g.1.1 i
    | .rcv i => rcvPay m ρ g.1.1 i
    | .stg => iprop(emp))
  cases kd g.2 <;> infer_instance

section Sched
variable (c : Dev nD) (i : Fin 30) (d : Fin 2)

theorem duties_bar : (Rd m ρ).duties (barCell c) 0 = Finset.univ := by
  dsimp only [Rd]; rw [if_pos ⟨rfl, rfl⟩]; rfl
theorem duties_snd : (Rd m ρ).duties (sCell c i) 0 = {0} := by
  dsimp only [Rd]; rw [if_pos ⟨rfl, rfl⟩, kd_snd]
theorem duties_rcv : (Rd m ρ).duties (rCell c i) 0 = {0} := by
  dsimp only [Rd]; rw [if_pos ⟨rfl, rfl⟩, kd_rcv]
theorem duties_later (g : GSem nD τ sig) : ∀ r, 1 ≤ r → (Rd m ρ).duties g r = ∅ :=
  fun r hr => by dsimp only [Rd]; rw [if_neg fun h => by omega]

theorem amount_bar : (Rd m ρ).amount (barCell c) 0 d = 1 := rfl
theorem amount_snd : (Rd m ρ).amount (sCell c i) 0 d = N := by dsimp only [Rd]; rw [kd_snd]
theorem amount_rcv : (Rd m ρ).amount (rCell c i) 0 d = N := by dsimp only [Rd]; rw [kd_rcv]

theorem expect_bar : (Rd m ρ).expect (barCell c) 0 = 2 := by
  unfold Schedule.expect Schedule.amountOf
  rw [duties_bar, Finset.sum_congr rfl fun d _ => amount_bar m ρ c d, Finset.sum_const, Finset.card_univ, Fintype.card_fin, smul_eq_mul]
theorem expect_snd : (Rd m ρ).expect (sCell c i) 0 = N := by
  unfold Schedule.expect Schedule.amountOf; rw [duties_snd, Finset.sum_singleton, amount_snd]
theorem expect_rcv : (Rd m ρ).expect (rCell c i) 0 = N := by
  unfold Schedule.expect Schedule.amountOf; rw [duties_rcv, Finset.sum_singleton, amount_rcv]

theorem payload_bar : (Rd m ρ).payload (barCell c) 0 d = barPay c d := rfl
theorem payload_snd : (Rd m ρ).payload (sCell c i) 0 d = sndPay m ρ c i := by dsimp only [Rd]; rw [kd_snd]
theorem payload_rcv : (Rd m ρ).payload (rCell c i) 0 d = rcvPay m ρ c i := by dsimp only [Rd]; rw [kd_rcv]

/-- The whole of the barrier cell's round: every landing piece of both neighbours that this device writes. -/
theorem rest_bar : bigSep ((Rd m ρ).duties (barCell c) 0 \ ∅) (fun d => (Rd m ρ).payload (barCell c) 0 d)
    = bigSep Finset.univ fun i : Fin 30 => iprop(∃ f, gp (F := F) (nbr c i) (dstS i) (hfM i) fullShare f) := by
  rw [Finset.sdiff_empty, duties_bar, bigSep_fin_two, payload_bar, payload_bar]
  unfold barPay
  rw [show (Finset.univ : Finset (Fin 30)) = (Finset.univ.filter fun i : Fin 30 => i.val % 2 = (0 : Fin 2).val) ∪ (Finset.univ.filter fun i : Fin 30 => i.val % 2 = (1 : Fin 2).val) from by decide,
    bigSep_union (by decide)]
  rfl
theorem rest_snd : bigSep ((Rd m ρ).duties (sCell c i) 0 \ ∅) (fun d => (Rd m ρ).payload (sCell c i) 0 d) = sndPay m ρ c i := by
  rw [Finset.sdiff_empty, duties_snd, bigSep_singleton, payload_snd]
theorem rest_rcv : bigSep ((Rd m ρ).duties (rCell c i) 0 \ ∅) (fun d => (Rd m ρ).payload (rCell c i) 0 d) = rcvPay m ρ c i := by
  rw [Finset.sdiff_empty, duties_rcv, bigSep_singleton, payload_rcv]

end Sched

/-! ### What a device owes; the levels -/

/-- What device `c` owes when it has sent the first `s` messages. -/
def O (c : Dev nD) (s : ℕ) : CellTallies nD τ sig Unit := ∑ i ∈ Finset.univ.filter (fun i : Fin 30 => s ≤ i.val), tallyAt (rCell (nbr c i) i) () N
def O₁ (c : Dev nD) : CellTallies nD τ sig Unit := O c 0 + tallyAt (barCell (rgt c)) () 1
/-- At launch: both neighbours' barrier units and every message. -/
def O₀ (c : Dev nD) : CellTallies nD τ sig Unit := O₁ c + tallyAt (barCell (lft c)) () 1

theorem O_succ (c : Dev nD) (i : Fin 30) : O c i.val = O c (i.val + 1) + tallyAt (rCell (nbr c i) i) () N := by
  unfold O
  rw [show (Finset.univ.filter fun j : Fin 30 => i.val ≤ j.val) = insert i (Finset.univ.filter fun j : Fin 30 => i.val + 1 ≤ j.val) from by
    ext j; simp only [Finset.mem_filter, Finset.mem_univ, true_and, Finset.mem_insert, Fin.ext_iff]; omega,
    Finset.sum_insert (by simp), add_comm]
theorem O_end (c : Dev nD) : O c 30 = 0 := by
  unfold O
  rw [Finset.sum_eq_zero]
  intro j hj; have := (Finset.mem_filter.1 hj).2; have := j.isLt; omega

def L (g : GSem nD τ sig) : Finset Unit := if g.1.2 = .tc then {()} else ∅
/-- The order in which cells are waited for: staging and send cells 0, the barrier 1, message `i`'s arrival `i + 2`. -/
def lv (g : GSem nD τ sig) (_ : Unit) : ℕ := match kd g.2 with | .bar => 1 | .rcv i => 2 + i.val | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_rcv (c : Dev nD) (i : Fin 30) (u : Unit) : lv (rCell c i) u = 2 + i.val := by unfold lv; rw [kd_rcv]
theorem lv_bar (c : Dev nD) (u : Unit) : lv (barCell c) u = 1 := rfl

theorem tallyAt_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h
theorem O_pos {c : Dev nD} {s : ℕ} {g : GSem nD τ sig} {u : Unit} (h : 0 < O c s g u) :
    ∃ i : Fin 30, s ≤ i.val ∧ g = rCell (nbr c i) i := by
  obtain ⟨i, hi, h⟩ := Pipeline.sum_pos_exists h
  exact ⟨i, (Finset.mem_filter.1 hi).2, tallyAt_pos h⟩
theorem O₀_pos {c : Dev nD} {g : GSem nD τ sig} {u : Unit} (h : 0 < O₀ c g u) :
    (∃ i : Fin 30, g = rCell (nbr c i) i) ∨ (∃ c', g = barCell c') := by
  rcases Pipeline.add_pos_cases h with h | h
  · rcases Pipeline.add_pos_cases h with h | h
    · obtain ⟨i, _, h⟩ := O_pos h; exact .inl ⟨i, h⟩
    · exact .inr ⟨_, tallyAt_pos h⟩
  · exact .inr ⟨_, tallyAt_pos h⟩

omit [FloatOps F] in
/-- A staging semaphore may be waited for owing everything. -/
theorem mayWait_stage (c : Dev nD) (q : DmaSem sig) (hq : kd (.dma q) = .stg) (O' : CellTallies nD τ sig Unit) (hO : O' = O₀ c ∨ O' = 0) :
    (levAts L lv : sProp 𝕄) ⊢ MayWait (c : Thread nD τ) (.dma q) () O' := by
  rcases hO with rfl | rfl
  · refine Pipeline.mayWait_of_levAts (by rw [L_tc]; exact Finset.mem_singleton_self _) fun g u hg => ?_
    have h0 : lv ((c : Thread nD τ), SemLoc.dma q) () = 0 := by unfold lv; rw [hq]
    rw [h0]
    rcases O₀_pos hg with ⟨i, rfl⟩ | ⟨c', rfl⟩
    · exact ⟨Finset.mem_singleton_self _, by rw [lv_rcv]; omega⟩
    · exact ⟨Finset.mem_singleton_self _, by rw [lv_bar]; omega⟩
  · rw [MayWait_zero]; iintro -; iempintro

omit [FloatOps F] in
/-- The barrier may be waited for owing every message. -/
theorem mayWait_bar (c : Dev nD) : (levAts L lv : sProp 𝕄) ⊢ MayWait (c : Thread nD τ) (.reg barS) () (O c 0) := by
  refine Pipeline.mayWait_of_levAts (by rw [L_tc]; exact Finset.mem_singleton_self _) fun g u hg => ?_
  obtain ⟨i, _, rfl⟩ := O_pos hg
  exact ⟨Finset.mem_singleton_self _, by rw [lv_rcv]; show 1 < 2 + i.val; omega⟩

omit [FloatOps F] in
/-- Message `i`'s arrival may be waited for when only later messages are owed. -/
theorem mayWait_rcv (c : Dev nD) (i : Fin 30) (s : ℕ) (hs : i.val < s) : (levAts L lv : sProp 𝕄) ⊢ MayWait (c : Thread nD τ) (.dma (rSem i)) () (O c s) := by
  refine Pipeline.mayWait_of_levAts (by rw [L_tc]; exact Finset.mem_singleton_self _) fun g u hg => ?_
  obtain ⟨j, hj, rfl⟩ := O_pos hg
  exact ⟨Finset.mem_singleton_self _, by rw [lv_rcv, lv_rcv]; omega⟩

end Cert.KernelIdeal.AG

end
-- ==== Proof.Steps.lean ====
/-
  The body's steps on what a device holds, at any point of its run: `St c r s k t` is what device `c` holds when it has
  received the first `r` messages, sent the first `s`, multiplied the first `k` half slots and seen the first `t`
  messages leave.
-/
module

public import proofs.«01_k».proof.Proof.Proto
public import Idealize.ShloMosaic.Lib.Rounds.Family

@[expose] public section

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 idx2_lt0)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The records: every cell's invariant, and that its round has begun -/

abbrev Cx : Type := Unit ⊕ Fin 30 ⊕ Fin 30
def csem : Cx → SemLoc sig
  | .inl _ => .reg barS
  | .inr (.inl i) => .dma (sSem i)
  | .inr (.inr i) => .dma (rSem i)
abbrev kcell (ck : Dev nD × Cx) : GSem nD τ sig := ((ck.1 : Thread nD τ), csem ck.2)

def recs (K : Dev nD × Cx → ℕ) : sProp 𝕄 :=
  bigSep Finset.univ fun ck : Dev nD × Cx => iprop(cellInv ER (Rd m ρ) (K ck) (kcell ck) ∗ reached ER (kcell ck) 0)

instance recs_persistent (K : Dev nD × Cx → ℕ) : BI.Persistent (recs m ρ K) := by unfold recs; infer_instance

variable (K : Dev nD × Cx → ℕ)

theorem recs_at (ck : Dev nD × Cx) : recs m ρ K ⊢ iprop(cellInv ER (Rd m ρ) (K ck) (kcell ck) ∗ reached ER (kcell ck) 0) := by
  classical
  exact bigSep_elim (Finset.mem_univ ck)

/-- One member of a family replaced. -/
theorem swap_at {n : ℕ} (Φ Ψ : Fin n → sProp 𝕄) (i : Fin n) {A B : sProp 𝕄} (hA : Φ i = A) (hB : Ψ i = B)
    (h : ∀ j, j ≠ i → Φ j = Ψ j) :
    bigSep Finset.univ Φ ⊢ iprop(A ∗ (B -∗ bigSep Finset.univ Ψ)) := by
  subst hA; subst hB
  have hΦ : bigSep Finset.univ Φ = iprop(Φ i ∗ bigSep (Finset.univ.erase i) Ψ) := by
    rw [bigSep_univ_split i, bigSep_congr (fun j hj => h j (Finset.ne_of_mem_erase hj))]; rfl
  have hΨ : bigSep Finset.univ Ψ = iprop(Ψ i ∗ bigSep (Finset.univ.erase i) Ψ) := bigSep_univ_split i
  rw [hΦ, hΨ]
  iintro ⟨Hi, Hr⟩
  isplitl [Hi]; · iexact Hi
  iintro H
  isplitl [H]; · iexact H
  iexact Hr

/-! ### What a device holds -/

/-- The receive cells. -/
def rcF (c : Dev nD) (r : ℕ) (i : Fin 30) : sProp 𝕄 :=
  if i.val < r then atPos ER (rCell c i) 1 ∅ 0 else iprop(atPos ER (rCell c i) 0 ∅ 0 ∗ cred (tallyAt (rCell c i) () N))
/-- The send cells. -/
def scF (c : Dev nD) (s t : ℕ) (i : Fin 30) : sProp 𝕄 :=
  if i.val < t then atPos ER (sCell c i) 1 ∅ 0
  else if i.val < s then iprop(atPos ER (sCell c i) 0 ∅ 0 ∗ cred (tallyAt (sCell c i) () N))
  else iprop(atPos ER (sCell c i) 0 ∅ 0 ∗ dutyTok ER (sCell c i) 0 0 ∗ dutyTok ER (rCell (nbr c i) i) 0 0
    ∗ ∃ f, gp (nbr c i) (dstS i) (hfM i) fullShare f)

/-- The half slot message `u` is read from; the last four are only landed in. -/
def sk (u : Fin 34) : Fin 16 := if h : u.val < 30 then srcS ⟨u.val, h⟩ else dstS ⟨u.val - 4, by omega⟩
def sh (u : Fin 34) : Fin 2 := if h : u.val < 30 then hfM ⟨u.val, h⟩ else hfM ⟨u.val - 4, by omega⟩

/-- The half slots' shares for lending. -/
def ldF (c : Dev nD) (r s t : ℕ) (u : Fin 34) : sProp 𝕄 :=
  if u.val < t ∨ (s ≤ u.val ∧ u.val < r + 4) then gp c (sk u) (sh u) (lq u.val) (gth m ρ c) else iprop(emp)
/-- The half slots' shares kept. -/
def kpF (c : Dev nD) (r : ℕ) (p : Fin 32) : sProp 𝕄 :=
  if p.val < r + 2 then gp c (pk p) (ph p) fullShare.left (gth m ρ c) else iprop(emp)

/-- The rows half `h` of device `o`'s block has, as they are loaded. -/
def half (o : Dev nD) (h : Fin 2) : Vec F S1x128x4096 .bf16 := fun j =>
  xstg m ρ o (ix2 (n0 := 256) (n1 := 4096) ⟨128 * h.val + (j 1).val, by have := (j 1).isLt; change (j 1).val < 128 at this; omega⟩ (j 2))

/-- The result of device `c`: every row's half block multiplied. -/
def outT (c : Dev nD) : (cc0_stg2_0 : Ref sig .tc).ty.Contents (Elt F) := fun i =>
  prod (half m ρ (⟨(i 0).val / 256, by have := (i 0).isLt; change (i 0).val < 4096 at this; show _ < 16; omega⟩ : Fin 16) ⟨(i 0).val % 256 / 128, by omega⟩)
    (wstg m ρ c) (ix2 (n0 := 128) (n1 := 512) ⟨(i 0).val % 128, by omega⟩ (i 1))

/-- The first `n` half slots' rows of the result are done. -/
def OutOK (c : Dev nD) (n : ℕ) (f : (cc0_stg2_0 : Ref sig .tc).ty.Contents (Elt F)) : Prop :=
  ∀ p : Fin 32, p.val < n → ∀ i : S4096x512.Idx, (i 0).val / 128 = 2 * (blk c (pk p)).val + (ph p).val → f i = outT m ρ c i

def OUT (c : Dev nD) (n : ℕ) : sProp 𝕄 :=
  iprop(∃ f : (cc0_stg2_0 : Ref sig .tc).ty.Contents (Elt F), ⌜OutOK m ρ c n f⌝ ∗ (((c : Thread nD τ).loc cc0_stg2_0) ↦{fullShare} f))

def St (c : Dev nD) (r s t : ℕ) : sProp 𝕄 :=
  iprop((∃ W, owes (c : Thread nD τ) (O c s) W) ∗ bigSep Finset.univ (rcF c r) ∗ bigSep Finset.univ (scF c s t)
    ∗ bigSep Finset.univ (ldF m ρ c r s t) ∗ bigSep Finset.univ (kpF m ρ c r))

/-- The device's weight block, copied. -/
def WB (c : Dev nD) : sProp 𝕄 := ((c : Thread nD τ).loc cc0_scratch1) ↦{fullShare} (wstg m ρ c : (cc0_scratch1 : Ref sig .tc).ty.Contents (Elt F))

abbrev wpc (c : Dev nD) (Q : PUnit → sProp 𝕄) (k : P F) : sProp 𝕄 := wp frame (wpE (defs₀ (F := F)) 𝒱₀ (c : Thread nD τ) none) Set.univ k Q

/-! ### A message sent -/

theorem sk_lt (i : Fin 30) (h) : sk ⟨i.val, h⟩ = srcS i ∧ sh ⟨i.val, h⟩ = hfM i := by
  unfold sk sh; rw [dif_pos i.isLt, dif_pos i.isLt]; exact ⟨rfl, rfl⟩

/-- Message `i` sent to device `n`. -/
def sendTo (n : Dev nD) (i : Fin 30) (k : P F) : P F :=
  .op (.enqueueDma (pieceV (srcS i) (hfM i)) (.remote (Dev.tc n) (pieceV (dstS i) (hfM i)) (.dma (sSem i))) (.dma (rSem i))
    (pieceWE _ _) (pieceWE _ _) ⟨⟨rfl, Or.inl rfl⟩, trivial⟩) fun _ => k

/-- Every piece counts the same. -/
theorem amount_piece (k : Fin 16) (h : Fin 2) (q : DmaSem sig) : (pieceV k h).view.amount (.dma q) = N := rfl

/-- The library's rule for a copy to another device, at message `i`. -/
theorem send_rule (c n : Dev nD) (i : Fin 30) (hn : n = nbr c i) (k : P F) (Q : PUnit → sProp 𝕄) (W : Waits sig Unit) (fd) :
    iprop(cellInv ER (Rd m ρ) (K (c, .inr (.inl i))) (sCell c i) ∗ cellInv ER (Rd m ρ) (K (nbr c i, .inr (.inr i))) (rCell (nbr c i) i)
        ∗ gp c (srcS i) (hfM i) (lq i.val) (gth m ρ c) ∗ gp (nbr c i) (dstS i) (hfM i) fullShare fd
        ∗ owes (c : Thread nD τ) (O c i.val) W
        ∗ dutyTok ER (sCell c i) 0 0 ∗ reached ER (sCell c i) 0
        ∗ dutyTok ER (rCell (nbr c i) i) 0 0 ∗ reached ER (rCell (nbr c i) i) 0)
      ⊢ iprop(((cred (tallyAt (sCell c i) () N) ∗ owes (c : Thread nD τ) (O c (i.val + 1)) W) -∗ wpc c Q k) -∗ wpc c Q (sendTo n i k)) := by
  subst hn
  have h1 : gp c (srcS i) (hfM i) (lq i.val) (gth m ρ c) ⊢ (Rd m ρ).payload (sCell c i) 0 0 := by
    rw [payload_snd]; exact BI.Entails.refl _
  have h2 : gp (nbr c i) (dstS i) (hfM i) fullShare
      ((pieceV (dstS i) (hfM i)).view.write (Elt F) fd ((pieceV (srcS i) (hfM i)).view.read (Elt F) (gth m ρ c)) Finset.univ)
      ⊢ (Rd m ρ).payload (rCell (nbr c i) i) 0 0 := by
    rw [payload_rcv]; unfold rcvPay gp
    exact Entails.of_eq (pointsTo_congr fun j hj => landed m ρ c i fd j hj)
  unfold gp at h1 h2
  have hd1 : (0 : Fin 2) ∈ (Rd m ρ).duties (sCell c i) 0 := by rw [duties_snd]; exact Finset.mem_singleton_self _
  have hd2 : (0 : Fin 2) ∈ (Rd m ρ).duties (rCell (nbr c i) i) 0 := by rw [duties_rcv]; exact Finset.mem_singleton_self _
  unfold sendTo wpc gp
  exact Rounds.wp_send_pointsTo 𝒱₀ ER (Rd m ρ) (c : Thread nD τ) none (κ₁ := K (c, .inr (.inl i))) (κ₂ := K (nbr c i, .inr (.inr i)))
    (c' := (nbr c i : Thread nD τ)) (src := pieceV (srcS i) (hfM i)) (dst := pieceV (dstS i) (hfM i)) (hsc := by rfl) (sS := .dma (sSem i)) (sem := .dma (rSem i))
    (hsrc := pieceWE _ _) (hdst := pieceWE _ _) (hsem := ⟨⟨rfl, Or.inl rfl⟩, trivial⟩) (k := fun _ => k) (Q := Q) (defs := defs₀ (F := F))
    (r₁ := 0) (r₂ := 0) (d₁ := 0) (d₂ := 0) (fd := fd) (fs := gth m ρ c) (q := lq i.val)
    hd1 hd2 () () N (amount_piece _ _ _) (amount_snd m ρ c i 0) (amount_rcv m ρ (nbr c i) i 0) (O c (i.val + 1)) (O_succ c i) (W := W) h1 h2

theorem step_send (c : Dev nD) (i : Fin 30) (r t : ℕ) (hr : i.val < r + 4) (ht : t ≤ i.val) (k : P F) (Q : PUnit → sProp 𝕄) :
    iprop(recs m ρ K ∗ St m ρ c r i.val t ∗ (St m ρ c r (i.val + 1) t -∗ wpc c Q k)) ⊢ wpc c Q (send c i k) := by
  rw [show send c i k = sendTo (tgt c i) i k from rfl]
  unfold St
  iintro ⟨#HR, ⟨⟨%W, HO⟩, Hrc, Hsc, Hld, Hkp⟩, Hk⟩
  ihave ⟨#HI1, #HM1⟩ := (recs_at m ρ K (c, .inr (.inl i))) $$ HR
  ihave ⟨#HI2, #HM2⟩ := (recs_at m ρ K (nbr c i, .inr (.inr i))) $$ HR
  have hi34 : i.val < 34 := by omega
  have e1 : scF (F := F) c i.val t i = iprop(atPos ER (sCell c i) 0 ∅ 0 ∗ dutyTok ER (sCell c i) 0 0 ∗ dutyTok ER (rCell (nbr c i) i) 0 0
    ∗ ∃ f, gp (nbr c i) (dstS i) (hfM i) fullShare f) := by
    unfold scF; rw [if_neg (by omega), if_neg (by omega)]
  have e2 : scF (F := F) c (i.val + 1) t i = iprop(atPos ER (sCell c i) 0 ∅ 0 ∗ cred (tallyAt (sCell c i) () N)) := by
    unfold scF; rw [if_neg (by omega), if_pos (by omega)]
  have e3 : ldF m ρ c r i.val t ⟨i.val, hi34⟩ = gp c (srcS i) (hfM i) (lq i.val) (gth m ρ c) := by
    unfold ldF; rw [if_pos (.inr ⟨le_refl _, hr⟩), (sk_lt i hi34).1, (sk_lt i hi34).2]
  have e4 : ldF m ρ c r (i.val + 1) t ⟨i.val, hi34⟩ = iprop(emp) := by
    unfold ldF; rw [if_neg (by show ¬ (i.val < t ∨ (i.val + 1 ≤ i.val ∧ _)); omega)]
  ihave ⟨Hs, Hsc⟩ := (swap_at (scF c i.val t) (scF c (i.val + 1) t) i e1 e2 (fun j hj => by
    have : j.val ≠ i.val := fun h => hj (Fin.ext h)
    unfold scF
    by_cases h1 : j.val < t
    · rw [if_pos h1, if_pos h1]
    · rw [if_neg h1, if_neg h1]
      by_cases h2 : j.val < i.val
      · rw [if_pos h2, if_pos (by omega)]
      · rw [if_neg h2, if_neg (by omega)])) $$ Hsc
  ihave ⟨Hl, Hld⟩ := (swap_at (ldF m ρ c r i.val t) (ldF m ρ c r (i.val + 1) t) ⟨i.val, hi34⟩ e3 e4 (fun j hj => by
    have : j.val ≠ i.val := fun h => hj (Fin.ext h)
    unfold ldF
    by_cases h1 : j.val < t ∨ (i.val ≤ j.val ∧ j.val < r + 4)
    · rw [if_pos h1, if_pos (by omega)]
    · rw [if_neg h1, if_neg (by omega)])) $$ Hld
  icases Hs with ⟨Hat, Ht1, Ht2, ⟨%fd, Hd⟩⟩
  iapply (send_rule m ρ K c (tgt c i) i (tgt_eq c i) k Q W fd) $$ [HO Hl Hd Ht1 Ht2]
  · isplitr; · iexact HI1
    isplitr; · iexact HI2
    isplitl [Hl]; · iexact Hl
    isplitl [Hd]; · iexact Hd
    isplitl [HO]; · iexact HO
    isplitl [Ht1]; · iexact Ht1
    isplitr; · iexact HM1
    isplitl [Ht2]; · iexact Ht2
    iexact HM2
  iintro ⟨Hc, HO⟩
  iapply Hk
  isplitl [HO]; · iexists W; iexact HO
  isplitl [Hrc]; · iexact Hrc
  isplitl [Hsc Hat Hc]
  · iapply Hsc
    isplitl [Hat]; · iexact Hat
    iexact Hc
  isplitl [Hld]
  · iapply Hld; iempintro
  iexact Hkp

/-! ### A message received -/

/-- A landed piece, its kept share and the share for lending on. -/
theorem land_split (c : Dev nD) (i : Fin 30) (h : i.val + 4 < 34) (h' : i.val + 2 < 32) :
    rcvPay m ρ c i ⊢ iprop(gp c (pk ⟨i.val + 2, h'⟩) (ph ⟨i.val + 2, h'⟩) fullShare.left (gth m ρ c)
      ∗ gp c (sk ⟨i.val + 4, h⟩) (sh ⟨i.val + 4, h⟩) (lq (i.val + 4)) (gth m ρ c)) := by
  have e1 : pk ⟨i.val + 2, h'⟩ = dstS i := by revert i; decide
  have e2 : ph ⟨i.val + 2, h'⟩ = hfM i := by revert i; decide
  have e3 : sk ⟨i.val + 4, h⟩ = dstS i := by revert i; decide
  have e4 : sh ⟨i.val + 4, h⟩ = hfM i := by revert i; decide
  have e5 : lq (i.val + 4) = fullShare.right := by unfold lq; rw [if_neg (by omega), if_neg (by omega)]
  rw [e1, e2, e3, e4, e5]
  unfold rcvPay gp
  exact (pointsTo_share (PosShare.mem_left_op_right fullShare)).1

theorem step_recv (c : Dev nD) (i : Fin 30) (s t : ℕ) (hs : i.val < s) (hs' : s ≤ i.val + 4) (ht : t ≤ i.val) (k : P F) (Q : PUnit → sProp 𝕄) :
    iprop(recs m ρ K ∗ levAts L lv ∗ St m ρ c i.val s t ∗ (St m ρ c (i.val + 1) s t -∗ wpc c Q k)) ⊢ wpc c Q (recv i k) := by
  unfold St
  iintro ⟨#HR, #Hlev, ⟨⟨%W, HO⟩, Hrc, Hsc, Hld, Hkp⟩, Hk⟩
  ihave ⟨#HI1, -⟩ := (recs_at m ρ K (c, .inr (.inr i))) $$ HR
  have h4 : i.val + 4 < 34 := by omega
  have h2 : i.val + 2 < 32 := by omega
  have e1 : rcF (F := F) c i.val i = iprop(atPos ER (rCell c i) 0 ∅ 0 ∗ cred (tallyAt (rCell c i) () N)) := by
    unfold rcF; rw [if_neg (by omega)]
  have e2 : rcF (F := F) c (i.val + 1) i = atPos ER (rCell c i) 1 ∅ 0 := by
    unfold rcF; rw [if_pos (by omega)]
  have e3 : ldF m ρ c (i.val + 1) s t ⟨i.val + 4, h4⟩ = gp c (sk ⟨i.val + 4, h4⟩) (sh ⟨i.val + 4, h4⟩) (lq (i.val + 4)) (gth m ρ c) := by
    unfold ldF; rw [if_pos (by show _ ∨ (s ≤ i.val + 4 ∧ i.val + 4 < i.val + 1 + 4); omega)]
  have e4 : kpF m ρ c (i.val + 1) ⟨i.val + 2, h2⟩ = gp c (pk ⟨i.val + 2, h2⟩) (ph ⟨i.val + 2, h2⟩) fullShare.left (gth m ρ c) := by
    unfold kpF; rw [if_pos (by show i.val + 2 < i.val + 1 + 2; omega)]
  ihave ⟨Hr, Hrc⟩ := (swap_at (rcF c i.val) (rcF c (i.val + 1)) i e1 e2 (fun j hj => by
    have : j.val ≠ i.val := fun h => hj (Fin.ext h)
    unfold rcF
    by_cases h1 : j.val < i.val
    · rw [if_pos h1, if_pos (by omega)]
    · rw [if_neg h1, if_neg (by omega)])) $$ Hrc
  ihave ⟨-, Hld⟩ := (swap_at (ldF m ρ c i.val s t) (ldF m ρ c (i.val + 1) s t) ⟨i.val + 4, h4⟩ rfl e3 (fun j hj => by
    have : j.val ≠ i.val + 4 := fun h => hj (Fin.ext h)
    unfold ldF
    by_cases h1 : j.val < t ∨ (s ≤ j.val ∧ j.val < i.val + 4)
    · rw [if_pos h1, if_pos (by omega)]
    · rw [if_neg h1, if_neg (by omega)])) $$ Hld
  ihave ⟨-, Hkp⟩ := (swap_at (kpF m ρ c i.val) (kpF m ρ c (i.val + 1)) ⟨i.val + 2, h2⟩ rfl e4 (fun j hj => by
    have : j.val ≠ i.val + 2 := fun h => hj (Fin.ext h)
    unfold kpF
    by_cases h1 : j.val < i.val + 2
    · rw [if_pos h1, if_pos (by omega)]
    · rw [if_neg h1, if_neg (by omega)])) $$ Hkp
  icases Hr with ⟨Hat, Hc⟩
  unfold recv wpc
  iapply (Rounds.wp_wait_rest_token 𝒱₀ ER (Rd m ρ) (c : Thread nD τ) none (κ := K (c, .inr (.inr i)))
      (wpE_waitDma2_eq 𝒱₀ (c : Thread nD τ) none Set.univ) (Set.mem_univ _) () (O := O c s) (W := W) (R := 0) (m := 0) (T := ∅)
      (by rw [Nat.zero_add]; exact (expect_rcv m ρ c i).symm)) $$ [Hc HO Hat]
  · isplitr; · iexact HI1
    isplitl [Hc]; · iexact Hc
    isplitl [HO]; · iexact HO
    isplitr; · iapply (mayWait_rcv c i s hs); iexact Hlev
    iexact Hat
  iintro ⟨HO, Hat, -, Hpay⟩
  ihave Hp := (Entails.of_eq (rest_rcv m ρ c i)) $$ Hpay
  ihave ⟨Hp1, Hp2⟩ := (land_split m ρ c i h4 h2) $$ Hp
  iapply Hk
  isplitl [HO]; · iexists _; iexact HO
  isplitl [Hrc Hat]
  · iapply Hrc; iexact Hat
  isplitl [Hsc]; · iexact Hsc
  isplitl [Hld Hp2]
  · iapply Hld; iexact Hp2
  iapply Hkp; iexact Hp1

/-! ### A departure awaited -/

theorem step_drain (c : Dev nD) (i : Fin 30) (k : P F) (Q : PUnit → sProp 𝕄) :
    iprop(recs m ρ K ∗ St m ρ c 30 30 i.val ∗ (St m ρ c 30 30 (i.val + 1) -∗ wpc c Q k)) ⊢ wpc c Q (drain i k) := by
  unfold St
  iintro ⟨#HR, ⟨⟨%W, HO⟩, Hrc, Hsc, Hld, Hkp⟩, Hk⟩
  ihave ⟨#HI1, -⟩ := (recs_at m ρ K (c, .inr (.inl i))) $$ HR
  have hi34 : i.val < 34 := by omega
  have e1 : scF (F := F) c 30 i.val i = iprop(atPos ER (sCell c i) 0 ∅ 0 ∗ cred (tallyAt (sCell c i) () N)) := by
    unfold scF; rw [if_neg (by omega), if_pos (by omega)]
  have e2 : scF (F := F) c 30 (i.val + 1) i = atPos ER (sCell c i) 1 ∅ 0 := by
    unfold scF; rw [if_pos (by omega)]
  have e3 : ldF m ρ c 30 30 (i.val + 1) ⟨i.val, hi34⟩ = sndPay m ρ c i := by
    unfold ldF sndPay; rw [if_pos (by show i.val < i.val + 1 ∨ _; omega), (sk_lt i hi34).1, (sk_lt i hi34).2]
  ihave ⟨Hs, Hsc⟩ := (swap_at (scF c 30 i.val) (scF c 30 (i.val + 1)) i e1 e2 (fun j hj => by
    have : j.val ≠ i.val := fun h => hj (Fin.ext h)
    unfold scF
    by_cases h1 : j.val < i.val
    · rw [if_pos h1, if_pos (by omega)]
    · rw [if_neg h1, if_neg (show ¬ j.val < i.val + 1 by omega)])) $$ Hsc
  ihave ⟨-, Hld⟩ := (swap_at (ldF m ρ c 30 30 i.val) (ldF m ρ c 30 30 (i.val + 1)) ⟨i.val, hi34⟩ rfl e3 (fun j hj => by
    have : j.val ≠ i.val := fun h => hj (Fin.ext h)
    unfold ldF
    by_cases h1 : j.val < i.val ∨ (30 ≤ j.val ∧ j.val < 30 + 4)
    · rw [if_pos h1, if_pos (by omega)]
    · rw [if_neg h1, if_neg (by omega)])) $$ Hld
  icases Hs with ⟨Hat, Hc⟩
  unfold drain wpc
  iapply (Rounds.wp_wait_rest_token 𝒱₀ ER (Rd m ρ) (c : Thread nD τ) none (κ := K (c, .inr (.inl i)))
      (wpE_waitDma2_eq 𝒱₀ (c : Thread nD τ) none Set.univ) (Set.mem_univ _) () (O := O c 30) (W := W) (R := 0) (m := 0) (T := ∅)
      (by rw [Nat.zero_add]; exact (expect_snd m ρ c i).symm)) $$ [Hc HO Hat]
  · isplitr; · iexact HI1
    isplitl [Hc]; · iexact Hc
    isplitl [HO]; · iexact HO
    isplitr; · rw [O_end, MayWait_zero]; iempintro
    iexact Hat
  iintro ⟨HO, Hat, -, Hpay⟩
  ihave Hp := (Entails.of_eq (rest_snd m ρ c i)) $$ Hpay
  iapply Hk
  isplitl [HO]; · iexists _; iexact HO
  isplitl [Hrc]; · iexact Hrc
  isplitl [Hsc Hat]
  · iapply Hsc; iexact Hat
  isplitl [Hld Hp]
  · iapply Hld; iexact Hp
  iexact Hkp

end Cert.KernelIdeal.AG

end
-- ==== Proof.Calc.lean ====
/-
  A half slot multiplied: the loads, and the product stored at the rows of the result it belongs to.
-/
module

public import proofs.«01_k».proof.Proof.Steps

@[expose] public section

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 idx2_lt0)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem hz2 : (![0, 0] : Fin 2 → Nat) = fun _ => 0 := funext fun a => by fin_cases a <;> rfl

abbrev rP (k : Fin 16) (h : Fin 2) : Rect S16x256x4096 := Rect.unit (s := S16x256x4096) ![k.val, 128 * h.val, 0] S1x128x4096.size (pinb k h)
abbrev rO (c : Dev nD) (k : Fin 16) (h : Fin 2) : Rect S4096x512 :=
  Rect.unit (s := S4096x512) (k0_off1 c (BitVec.ofNat 32 k.val) (BitVec.ofNat 32 (128 * h.val))) S128x512.size (k0_off1_inb c k h)
abbrev rW : Rect S4096x512 := Rect.unit (s := S4096x512) ![0, 0] S4096x512.size inb_S4096x512_S4096x512_0_0

/-- What a load of a half slot yields. -/
theorem read_half (c : Dev nD) (k : Fin 16) (h : Fin 2) :
    (gM : Memref sig .tc .vmem S16x256x4096 .bf16).view.readAt (Elt F) (rP k h).toLoadRect (gth m ρ c) = half m ρ (blk c k) h := by
  funext j
  have e : ((rP k h).toLoadRect.idx j : S16x256x4096.Idx) = ix3 (n0 := 16) (n1 := 256) (n2 := 4096) k
      ⟨128 * h.val + (j 1).val, by have := (j 1).isLt; change (j 1).val < 128 at this; omega⟩ (j 2) := by
    funext a; apply Fin.ext
    match a with
    | ⟨0, _⟩ =>
      show k.val + 1 * (j 0).val = k.val
      have := (j 0).isLt; change (j 0).val < 1 at this; omega
    | ⟨1, _⟩ => show 128 * h.val + 1 * (j 1).val = 128 * h.val + (j 1).val; omega
    | ⟨2, _⟩ => show 0 + 1 * (j 2).val = (j 2).val; omega
  show gth m ρ c ((rP k h).toLoadRect.idx j) = _
  rw [e]
  rfl

theorem read_wb (f : (cc0_scratch1 : Ref sig .tc).ty.Contents (Elt F)) :
    (wbM : Memref sig .tc .vmem S4096x512 .bf16).view.readAt (Elt F) rW.toLoadRect f = f :=
  Memref.readAt_unit_zero (Elt F) cc0_scratch1 hz2 _ f

/-- Two half slots are stored at different rows. -/
theorem rows_inj (c : Dev nD) (p q : Fin 32) (h : 2 * (blk c (pk p)).val + (ph p).val = 2 * (blk c (pk q)).val + (ph q).val) : p = q := by
  have h1 := (ph p).isLt; have h2 := (ph q).isLt
  have e1 : blk c (pk p) = blk c (pk q) := Fin.ext (by omega)
  have e2 : ph p = ph q := Fin.ext (by omega)
  have e3 : pk p = pk q := by rw [← slotOf_blk c (pk p), e1, slotOf_blk]
  exact pkh.injective (Prod.ext e3 e2)

/-- The product of half slot `p` stored: one half slot more is done. -/
theorem write_rows (c : Dev nD) (p : Fin 32) (f : (cc0_stg2_0 : Ref sig .tc).ty.Contents (Elt F)) (hf : OutOK m ρ c p.val f) :
    OutOK m ρ c (p.val + 1) (((oM : Memref sig .tc .vmem S4096x512 .f32).access (rO c (pk p) (ph p))).write (Elt F) f
      (prod (half m ρ (blk c (pk p)) (ph p)) (wstg m ρ c)) Finset.univ) := by
  have ho0 : k0_off1 c (BitVec.ofNat 32 (pk p).val) (BitVec.ofNat 32 (128 * (ph p).val)) 0 = 256 * (blk c (pk p)).val + 128 * (ph p).val :=
    congrFun (off1_eq c (pk p) (ph p)) 0
  have ho1 : k0_off1 c (BitVec.ofNat 32 (pk p).val) (BitVec.ofNat 32 (128 * (ph p).val)) 1 = 0 :=
    congrFun (off1_eq c (pk p) (ph p)) 1
  intro q hq i hi
  have hh := (ph p).isLt
  by_cases hpq : q = p
  · subst hpq
    have hy : ((oM : Memref sig .tc .vmem S4096x512 .f32).access (rO c (pk q) (ph q))).emb
        (ix2 (n0 := 128) (n1 := 512) ⟨(i 0).val % 128, by omega⟩ (i 1)) = i := by
      funext a; apply Fin.ext
      match a with
      | ⟨0, _⟩ =>
        show k0_off1 c (BitVec.ofNat 32 (pk q).val) (BitVec.ofNat 32 (128 * (ph q).val)) 0 + 1 * ((i 0).val % 128) = (i 0).val
        rw [ho0]; omega
      | ⟨1, _⟩ =>
        show k0_off1 c (BitVec.ofNat 32 (pk q).val) (BitVec.ofNat 32 (128 * (ph q).val)) 1 + 1 * (i 1).val = (i 1).val
        rw [ho1]; omega
    conv_lhs => rw [← hy]
    rw [View.write_emb_of_mem _ _ (Finset.mem_univ _)]
    show prod (half m ρ (blk c (pk q)) (ph q)) (wstg m ρ c) (ix2 (n0 := 128) (n1 := 512) ⟨(i 0).val % 128, by omega⟩ (i 1)) = outT m ρ c i
    unfold outT
    have e1 : (⟨(i 0).val / 256, by have := (i 0).isLt; change (i 0).val < 4096 at this; show _ < 16; omega⟩ : Fin 16) = blk c (pk q) := Fin.ext (by show (i 0).val / 256 = _; omega)
    have e2 : (⟨(i 0).val % 256 / 128, by omega⟩ : Fin 2) = ph q := Fin.ext (by show (i 0).val % 256 / 128 = _; omega)
    rw [e1, e2]
  · rw [View.write_of_not_mem]
    · exact hf q (by have : q.val ≠ p.val := fun h => hpq (Fin.ext h); omega) i hi
    · intro hm
      have hm' := View.setOn_subset_set _ _ hm
      have hm2 : i ∈ (rO c (pk p) (ph p)).set := (View.set_slice_whole cc0_stg2_0 (rO c (pk p) (ph p))) ▸ hm'
      have h0 := (Rect.mem_set_unit.1 hm2) 0
      change k0_off1 c (BitVec.ofNat 32 (pk p).val) (BitVec.ofNat 32 (128 * (ph p).val)) 0 ≤ (i 0).val ∧ (i 0).val < k0_off1 c (BitVec.ofNat 32 (pk p).val) (BitVec.ofNat 32 (128 * (ph p).val)) 0 + 128 at h0
      rw [ho0] at h0
      exact hpq (rows_inj c q p (by omega))

/-- A half slot's elements are those its load reads. -/
theorem load_sub (k : Fin 16) (h : Fin 2) :
    (gM : Memref sig .tc .vmem S16x256x4096 .bf16).view.setOn (rP k h).toLoadRect.set ⊆ (pieceV k h).view.set :=
  subset_of_eq ((View.set_reshape _ _).trans (View.set_slice _ _)).symm

theorem step_comp (c : Dev nD) (p : Fin 32) (r s t : ℕ) (hp : p.val < r + 2) (k : P F) (Q : PUnit → sProp 𝕄) :
    iprop(St m ρ c r s t ∗ WB m ρ c ∗ OUT m ρ c p.val ∗ ((St m ρ c r s t ∗ WB m ρ c ∗ OUT m ρ c (p.val + 1)) -∗ wpc c Q k))
      ⊢ wpc c Q (comp c (pk p) (ph p) k) := by
  unfold St WB OUT
  iintro ⟨⟨HO, Hrc, Hsc, Hld, Hkp⟩, Hwb, ⟨%f, %hf, Hout⟩, Hk⟩
  have e1 : kpF m ρ c r p = gp c (pk p) (ph p) fullShare.left (gth m ρ c) := by unfold kpF; rw [if_pos hp]
  ihave ⟨Hp, Hkp⟩ := (swap_at (kpF m ρ c r) (kpF m ρ c r) p e1 e1 (fun _ _ => rfl)) $$ Hkp
  unfold gp comp wpc
  iapply (wp_load 𝒱₀ (c : Thread nD τ) none Set.univ (m := gM) (load_sub (pk p) (ph p))) $$ Hp; iintro Hp
  rw [read_half]
  iapply (wp_load 𝒱₀ (c : Thread nD τ) none Set.univ (m := wbM) (Finset.subset_univ _)) $$ Hwb; iintro Hwb
  rw [read_wb]
  iapply (wp_load 𝒱₀ (c : Thread nD τ) none Set.univ (m := oM) (Finset.subset_univ _)) $$ Hout; iintro Hout
  iapply (wp_store 𝒱₀ (c : Thread nD τ) none Set.univ (m := oM) (r := rO c (pk p) (ph p)) (Mk := Finset.univ) (Finset.subset_univ _)) $$ Hout; iintro Hout
  iapply Hk
  isplitl [HO Hrc Hsc Hld Hkp Hp]
  · isplitl [HO]; · iexact HO
    isplitl [Hrc]; · iexact Hrc
    isplitl [Hsc]; · iexact Hsc
    isplitl [Hld]; · iexact Hld
    iapply Hkp; iexact Hp
  isplitl [Hwb]; · iexact Hwb
  iexists _
  isplitr; · ipureintro; exact write_rows m ρ c p f hf
  iexact Hout

end Cert.KernelIdeal.AG

end
-- ==== Proof.Enter.lean ====
/-
  The entry: the barrier, the device's own block put in slot 0, the weight block copied.
-/
module

public import proofs.«01_k».proof.Proof.Calc

@[expose] public section

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 idx2_lt0)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cx → ℕ)

/-! ### The gather buffer in pieces -/

theorem piece_disjoint {k k' : Fin 16} {h h' : Fin 2} (hne : (k, h) ≠ (k', h')) :
    Disjoint ((pieceV k h).view.set : Finset S16x256x4096.Idx) ((pieceV k' h').view.set : Finset S16x256x4096.Idx) := by
  rw [Finset.disjoint_left]
  intro i h1 h2
  obtain ⟨a1, a2⟩ := (mem_piece k h i).1 h1
  obtain ⟨b1, b2⟩ := (mem_piece k' h' i).1 h2
  exact hne (Prod.ext (a1.symm.trans b1) (Fin.ext (a2.symm.trans b2)))

/-- The landing pieces together. -/
def landSet : Finset S16x256x4096.Idx := Finset.univ.biUnion fun i : Fin 30 => ((pieceV (dstS i) (hfM i)).view.set : Finset S16x256x4096.Idx)

theorem dst_inj (i j : Fin 30) (h : (dstS i, hfM i) = (dstS j, hfM j)) : i = j := by revert i j; decide +kernel
theorem dst_ne (i : Fin 30) : dstS i ≠ 0 := by revert i; decide
theorem dst_cover (k : Fin 16) (h : Fin 2) (hk : k ≠ 0) : ∃ i : Fin 30, dstS i = k ∧ hfM i = h := by revert k h; decide

/-- Off the landing pieces the buffer is slot 0. -/
theorem mem_slot0 (i : S16x256x4096.Idx) : i ∈ (Finset.univ \ landSet : Finset S16x256x4096.Idx) ↔ (i 0).val = 0 := by
  rw [Finset.mem_sdiff, landSet, Finset.mem_biUnion]
  constructor
  · rintro ⟨_, hn⟩
    by_contra h0
    have h1 := (i 1).isLt
    change (i 1).val < 256 at h1
    obtain ⟨j, hj1, hj2⟩ := dst_cover (i 0) ⟨(i 1).val / 128, by omega⟩ (fun h => h0 (congrArg Fin.val h))
    exact hn ⟨j, Finset.mem_univ _, (mem_piece _ _ i).2 ⟨hj1.symm, by rw [hj2]⟩⟩
  · intro h0
    refine ⟨Finset.mem_univ _, ?_⟩
    rintro ⟨j, _, hj⟩
    exact dst_ne j (((mem_piece _ _ i).1 hj).1.symm.trans (Fin.ext h0))

theorem slot0_pieces : (Finset.univ \ landSet : Finset S16x256x4096.Idx)
    = ((pieceV 0 0).view.set : Finset S16x256x4096.Idx) ∪ ((pieceV 0 1).view.set : Finset S16x256x4096.Idx) := by
  ext i
  rw [mem_slot0, Finset.mem_union, mem_piece, mem_piece]
  have h1 := (i 1).isLt
  change (i 1).val < 256 at h1
  constructor
  · intro h
    by_cases hh : (i 1).val / 128 = 0
    · exact .inl ⟨Fin.ext h, hh⟩
    · exact .inr ⟨Fin.ext h, by show (i 1).val / 128 = 1; omega⟩
  · rintro (h | h) <;> exact congrArg Fin.val h.1

abbrev slot0 (c : Dev nD) (f : (cc0_scratch0 : Ref sig .tc).ty.Contents (Elt F)) : sProp 𝕄 :=
  ((c : Thread nD τ).loc cc0_scratch0) ↦[(Finset.univ \ landSet : Finset S16x256x4096.Idx)]{fullShare} f

omit [FloatOps F] in
/-- The buffer whole: the landing pieces and slot 0. -/
theorem split_scratch (c : Dev nD) (f : (cc0_scratch0 : Ref sig .tc).ty.Contents (Elt F)) :
    (((c : Thread nD τ).loc cc0_scratch0) ↦{fullShare} f : sProp 𝕄)
      ⊢ iprop((bigSep Finset.univ fun i : Fin 30 => gp c (dstS i) (hfM i) fullShare f) ∗ slot0 c f) := by
  refine (pointsTo_split_subset (I := landSet) (Finset.subset_univ _)).1.trans ?_
  refine BIClass.sep_mono (Entails.of_eq ?_) (BI.Entails.refl _)
  unfold landSet
  exact pointsTo_biUnion (ℓ := (c : Thread nD τ).loc cc0_scratch0) Finset.univ _ (fun i _ j _ hij => piece_disjoint fun h => hij (dst_inj i j h))

theorem some_gp (c : Dev nD) (k : Fin 16) (h : Fin 2) (f : (cc0_scratch0 : Ref sig .tc).ty.Contents (Elt F)) :
    gp (F := F) c k h fullShare f ⊢ iprop(∃ f, gp (F := F) c k h fullShare f) := by
  iintro H; iexists f; iexact H

/-- What a device lets its neighbours write. -/
theorem lend_out (c : Dev nD) (f : (cc0_scratch0 : Ref sig .tc).ty.Contents (Elt F)) :
    (bigSep Finset.univ fun i : Fin 30 => gp (F := F) c (dstS i) (hfM i) fullShare f) ⊢ iprop(barPay (F := F) (lft c) 0 ∗ barPay (F := F) (rgt c) 1) := by
  have hs : (Finset.univ : Finset (Fin 30)) = (Finset.univ.filter fun i : Fin 30 => i.val % 2 = (0 : Fin 2).val) ∪ (Finset.univ.filter fun i : Fin 30 => i.val % 2 = (1 : Fin 2).val) := by decide
  rw [hs, bigSep_union (by decide)]
  unfold barPay
  refine BIClass.sep_mono (bigSep_mono fun i hi => ?_) (bigSep_mono fun i hi => ?_)
  · have h := (Finset.mem_filter.1 hi).2
    rw [show nbr (lft c) i = c from (if_pos h).trans (rgt_lft c)]
    exact some_gp c _ _ f
  · have h := (Finset.mem_filter.1 hi).2
    rw [show nbr (rgt c) i = c from (if_neg (by rw [h]; decide)).trans (lft_rgt c)]
    exact some_gp c _ _ f

/-! ### The barrier -/

/-- The barrier with its two targets named. -/
def barTo (n n' : Dev nD) (k : P F) : P F :=
  .op (.semSignal (Dev.tc n) barS 1) fun _ => .op (.semSignal (Dev.tc n') barS 1) fun _ => .op (.semWait barS 2) fun _ => k

theorem barrier_to (c : Dev nD) (k : P F) : barrier c k = barTo (lft c) (rgt c) k := by
  rw [← dev1_eq c, ← dev2_eq c]; rfl

/-- Both signals and the wait: slots 1 to 15 go to the neighbours that write them, theirs come. -/
theorem step_barrier (c : Dev nD) (f : (cc0_scratch0 : Ref sig .tc).ty.Contents (Elt F)) (W : Waits sig Unit) (k : P F) (Q : PUnit → sProp 𝕄) :
    iprop(recs m ρ K ∗ levAts L lv ∗ (((c : Thread nD τ).loc cc0_scratch0) ↦{fullShare} f) ∗ owes (c : Thread nD τ) (O₀ c) W
        ∗ dutyTok ER (barCell (lft c)) 0 0 ∗ dutyTok ER (barCell (rgt c)) 0 1 ∗ atPos ER (barCell c) 0 ∅ 0 ∗ cred (tallyAt (barCell c) () 2)
        ∗ (((∃ W, owes (c : Thread nD τ) (O c 0) W) ∗ atPos ER (barCell c) 1 ∅ 0 ∗ slot0 c f
            ∗ bigSep Finset.univ fun i : Fin 30 => iprop(∃ f, gp (F := F) (nbr c i) (dstS i) (hfM i) fullShare f)) -∗ wpc c Q k))
      ⊢ wpc c Q (barrier c k) := by
  rw [barrier_to]
  iintro ⟨#HR, #Hlev, Hscr, HO, Ht1, Ht2, Hat, Hc, Hk⟩
  ihave ⟨#HI0, -⟩ := (recs_at m ρ K (c, .inl ())) $$ HR
  ihave ⟨#HI1, #HM1⟩ := (recs_at m ρ K (lft c, .inl ())) $$ HR
  ihave ⟨#HI2, #HM2⟩ := (recs_at m ρ K (rgt c, .inl ())) $$ HR
  ihave ⟨Hl, Hs0⟩ := (split_scratch c f) $$ Hscr
  ihave ⟨Hp1, Hp2⟩ := (lend_out c f) $$ Hl
  unfold barTo wpc
  iapply (Rounds.wp_signal 𝒱₀ ER (Rd m ρ) (c : Thread nD τ) none (dst := (lft c : Thread nD τ)) (κ := K (lft c, .inl ()))
      (d := 0) (by rw [duties_bar]; exact Finset.mem_univ _) ((amount_bar m ρ (lft c) 0).trans (by decide)) () (O₁ c) rfl)
    $$ [HO Ht1 Hp1]
  · isplitr; · iexact HI1
    isplitl [HO]; · iexact HO
    isplitl [Ht1]; · iexact Ht1
    isplitl [Hp1]; · rw [payload_bar]; iexact Hp1
    iexact HM1
  iintro HO
  iapply (Rounds.wp_signal 𝒱₀ ER (Rd m ρ) (c : Thread nD τ) none (dst := (rgt c : Thread nD τ)) (κ := K (rgt c, .inl ()))
      (d := 1) (by rw [duties_bar]; exact Finset.mem_univ _) ((amount_bar m ρ (rgt c) 1).trans (by decide)) () (O c 0) rfl)
    $$ [HO Ht2 Hp2]
  · isplitr; · iexact HI2
    isplitl [HO]; · iexact HO
    isplitl [Ht2]; · iexact Ht2
    isplitl [Hp2]; · rw [payload_bar]; iexact Hp2
    iexact HM2
  iintro HO
  iapply (Rounds.wp_wait_rest_token 𝒱₀ ER (Rd m ρ) (c : Thread nD τ) none (κ := K (c, .inl ()))
      (wpE_semWait_eq 𝒱₀ (c : Thread nD τ) none Set.univ) (Set.mem_univ _) () (O := O c 0) (W := W) (R := 0) (m := 0) (T := ∅)
      (by rw [expect_bar]; try decide)) $$ [Hc HO Hat]
  · isplitr; · iexact HI0
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply Hk
  isplitl [HO]; · iexists _; iexact HO
  isplitl [Hat]; · iexact Hat
  isplitl [Hs0]; · iexact Hs0
  iexact Hp

/-! ### Slot 0 filled -/

abbrev r00 : Rect S256x4096 := Rect.unit (s := S256x4096) ![0, 0] S256x4096.size inb_S256x4096_S256x4096_0_0
abbrev rG : Rect S16x256x4096 := Rect.unit (s := S16x256x4096) ![0, 0, 0] S1x256x4096.size inb_S16x256x4096_S1x256x4096_0_0_0

omit [FloatOps F] in
theorem read_x (f : (cc0_stg0_0 : Ref sig .tc).ty.Contents (Elt F)) :
    (xM : Memref sig .tc .vmem S256x4096 .bf16).view.readAt (Elt F) r00.toLoadRect f = f :=
  Memref.readAt_unit_zero (Elt F) cc0_stg0_0 hz2 _ f

theorem mem_rG (i : S16x256x4096.Idx) : i ∈ rG.set ↔ (i 0).val = 0 := by
  rw [Rect.mem_set_unit]
  constructor
  · intro H
    have h0 := H 0
    change 0 ≤ (i 0).val ∧ (i 0).val < 0 + 1 at h0
    omega
  · intro h a
    have h1 := (i 1).isLt; have h2 := (i 2).isLt
    match a with
    | ⟨0, _⟩ => show 0 ≤ (i 0).val ∧ (i 0).val < 0 + 1; rw [h]; decide
    | ⟨1, _⟩ => exact ⟨Nat.zero_le _, by show (i 1).val < 0 + 256; rw [Nat.zero_add]; exact h1⟩
    | ⟨2, _⟩ => exact ⟨Nat.zero_le _, by show (i 2).val < 0 + 4096; rw [Nat.zero_add]; exact h2⟩

theorem rG_sub : (rG.set : Finset S16x256x4096.Idx) ⊆ Finset.univ \ landSet := fun i hi => (mem_slot0 i).2 ((mem_rG i).1 hi)

/-- What the store of a device's own block leaves in slot 0. -/
theorem write_slot0 (c : Dev nD) (f : (cc0_scratch0 : Ref sig .tc).ty.Contents (Elt F)) (i : S16x256x4096.Idx) (hi : (i 0).val = 0) :
    ((gM : Memref sig .tc .vmem S16x256x4096 .bf16).access rG).write (Elt F) f (k0_pay1 (xstg m ρ c)) Finset.univ i = gth m ρ c i := by
  have hy : ((gM : Memref sig .tc .vmem S16x256x4096 .bf16).access rG).emb (ix3 (n0 := 1) (n1 := 256) (n2 := 4096) 0 (i 1) (i 2)) = i := by
    funext a; apply Fin.ext
    match a with
    | ⟨0, _⟩ => show 0 + 1 * 0 = (i 0).val; rw [hi]
    | ⟨1, _⟩ => show 0 + 1 * (i 1).val = (i 1).val; omega
    | ⟨2, _⟩ => show 0 + 1 * (i 2).val = (i 2).val; omega
  conv_lhs => rw [← hy]
  rw [View.write_emb_of_mem _ _ (Finset.mem_univ _)]
  show k0_pay1 (xstg m ρ c) (ix3 (n0 := 1) (n1 := 256) (n2 := 4096) 0 (i 1) (i 2)) = gth m ρ c i
  show shapeCast S1x256x4096 (shapeCast S256x4096 (xstg m ρ c) _) _ (ix3 (n0 := 1) (n1 := 256) (n2 := 4096) 0 (i 1) (i 2)) = xstg m ρ (blk c (i 0)) _
  rw [show blk c (i 0) = c from (congrArg (blk c) (Fin.ext hi : (i 0) = (0 : Fin 16))).trans (blk_zero c)]
  refine (ValueIdx.shapeCast_ab_1ab_apply _ _ 0 (i 1) (i 2)).trans ?_
  exact congrFun (shapeCast_self (xstg m ρ c) _) _

/-- A family over `a + b` members in two parts. -/
theorem bigSep_fin_add {a b : ℕ} (Φ : Fin (a + b) → sProp 𝕄) :
    bigSep Finset.univ Φ = iprop((bigSep Finset.univ fun i : Fin a => Φ (Fin.castAdd b i)) ∗ bigSep Finset.univ fun j : Fin b => Φ (Fin.natAdd a j)) := by
  rw [bigSep_univ_equiv finSumFinEquiv, bigSep_univ_sum]
  rfl

/-- A piece of slot 0: the kept share and the two lent ones. -/
theorem share3 (c : Dev nD) (h : Fin 2) (f : (cc0_scratch0 : Ref sig .tc).ty.Contents (Elt F)) :
    gp (F := F) c 0 h fullShare f ⊢ iprop(gp c 0 h fullShare.left f ∗ gp c 0 h fullShare.right.left f ∗ gp c 0 h fullShare.right.right f) := by
  unfold gp
  refine (pointsTo_share (PosShare.mem_left_op_right fullShare)).1.trans (BIClass.sep_mono (BI.Entails.refl _) ?_)
  exact (pointsTo_share (PosShare.mem_left_op_right fullShare.right)).1

/-- The first half slots kept and lent. -/
theorem ld_kp_start (c : Dev nD) :
    iprop(gp c 0 0 fullShare (gth m ρ c) ∗ gp c 0 1 fullShare (gth m ρ c))
      ⊢ iprop(bigSep Finset.univ (ldF m ρ c 0 0 0) ∗ bigSep Finset.univ (kpF m ρ c 0)) := by
  have h1 : bigSep Finset.univ (ldF m ρ c 0 0 0) = iprop(((gp c 0 0 fullShare.right.left (gth m ρ c) ∗ gp c 0 1 fullShare.right.left (gth m ρ c))
      ∗ (gp c 0 1 fullShare.right.right (gth m ρ c) ∗ gp c 0 0 fullShare.right.right (gth m ρ c))) ∗ emp) := by
    rw [show bigSep Finset.univ (ldF m ρ c 0 0 0) = bigSep Finset.univ (fun i : Fin (4 + 30) => ldF m ρ c 0 0 0 i) from rfl,
      bigSep_fin_add, show (bigSep Finset.univ fun j : Fin 30 => ldF m ρ c 0 0 0 (Fin.natAdd 4 j)) = iprop(emp) from
        (bigSep_congr (Ψ := fun _ => iprop(emp)) fun j _ => by unfold ldF; rw [if_neg (by simp)]).trans (bigSep_emp_const _),
      show (bigSep Finset.univ fun i : Fin 4 => ldF m ρ c 0 0 0 (Fin.castAdd 30 i)) = bigSep Finset.univ (fun i : Fin (2 + 2) => ldF m ρ c 0 0 0 (Fin.castAdd 30 i)) from rfl,
      bigSep_fin_add, bigSep_fin_two, bigSep_fin_two]
    rfl
  have h2 : bigSep Finset.univ (kpF m ρ c 0) = iprop((gp c 0 0 fullShare.left (gth m ρ c) ∗ gp c 0 1 fullShare.left (gth m ρ c)) ∗ emp) := by
    rw [show bigSep Finset.univ (kpF m ρ c 0) = bigSep Finset.univ (fun i : Fin (2 + 30) => kpF m ρ c 0 i) from rfl,
      bigSep_fin_add, show (bigSep Finset.univ fun j : Fin 30 => kpF m ρ c 0 (Fin.natAdd 2 j)) = iprop(emp) from
        (bigSep_congr (Ψ := fun _ => iprop(emp)) fun j _ => by unfold kpF; rw [if_neg (by simp)]).trans (bigSep_emp_const _),
      bigSep_fin_two]
    rfl
  rw [h1, h2]
  refine (BIClass.sep_mono (share3 c 0 _) (share3 c 1 _)).trans ?_
  iintro ⟨⟨A1, A2, A3⟩, ⟨B1, B2, B3⟩⟩
  isplitl [A2 A3 B2 B3]
  · isplitl
    · isplitl [A2 B2]
      · isplitl [A2]; · iexact A2
        iexact B2
      isplitl [B3]; · iexact B3
      iexact A3
    iempintro
  isplitl
  · isplitl [A1]; · iexact A1
    iexact B1
  iempintro

abbrev xBuf (c : Dev nD) : sProp 𝕄 := ((c : Thread nD τ).loc cc0_stg0_0) ↦{fullShare} (xstg m ρ c : (cc0_stg0_0 : Ref sig .tc).ty.Contents (Elt F))
abbrev wBuf (c : Dev nD) : sProp 𝕄 := ((c : Thread nD τ).loc cc0_stg1_0) ↦{fullShare} (wstg m ρ c : (cc0_stg1_0 : Ref sig .tc).ty.Contents (Elt F))

theorem step_fill (c : Dev nD) (f : (cc0_scratch0 : Ref sig .tc).ty.Contents (Elt F)) (k : P F) (Q : PUnit → sProp 𝕄) :
    iprop(xBuf m ρ c ∗ slot0 c f
        ∗ ((xBuf m ρ c ∗ bigSep Finset.univ (ldF m ρ c 0 0 0) ∗ bigSep Finset.univ (kpF m ρ c 0)) -∗ wpc c Q k))
      ⊢ wpc c Q (fill k) := by
  iintro ⟨Hx, Hs, Hk⟩
  unfold fill wpc
  iapply (wp_load 𝒱₀ (c : Thread nD τ) none Set.univ (m := xM) (Finset.subset_univ _)) $$ Hx; iintro Hx
  rw [read_x]
  iapply (wp_load 𝒱₀ (c : Thread nD τ) none Set.univ (m := gM) ((subset_of_eq ((View.set_slice _ _).symm.trans (View.set_slice_whole cc0_scratch0 rG))).trans rG_sub)) $$ Hs; iintro Hs
  iapply (wp_store 𝒱₀ (c : Thread nD τ) none Set.univ (m := gM) (r := rG) (Mk := Finset.univ)
    ((View.setOn_subset_set _ _).trans (by rw [show ((gM : Memref sig .tc .vmem S16x256x4096 .bf16).access rG).set = rG.set from View.set_slice_whole _ _]; exact rG_sub))) $$ Hs; iintro Hs
  iapply Hk
  isplitl [Hx]; · iexact Hx
  iapply (ld_kp_start m ρ c)
  ihave Hs' := (Entails.of_eq (pointsTo_congr (g := gth m ρ c) fun i hi => write_slot0 m ρ c f i ((mem_slot0 i).1 hi))) $$ Hs
  rw [slot0_pieces]
  ihave Hs2 := (pointsTo_union (piece_disjoint (by decide))).1 $$ Hs'
  unfold gp
  iexact Hs2

theorem write_wb (f w : (cc0_scratch1 : Ref sig .tc).ty.Contents (Elt F)) :
    ((wbM : Memref sig .tc .vmem S4096x512 .bf16).access rW : View sig .tc _ _ _).write (Elt F) f (k0_pay2 w) Finset.univ = w := by
  have e : k0_pay2 w = w := (shapeCast_self (shapeCast S4096x512 w _) _).trans (shapeCast_self w _)
  rw [e]
  exact Memref.write_access_unit_zero_univ (Elt F) cc0_scratch1 hz2 _ f w
theorem read_w (f : (cc0_stg1_0 : Ref sig .tc).ty.Contents (Elt F)) :
    (wM : Memref sig .tc .vmem S4096x512 .bf16).view.readAt (Elt F) rW.toLoadRect f = f :=
  Memref.readAt_unit_zero (Elt F) cc0_stg1_0 hz2 _ f

/-- The weight block copied. -/
theorem step_wcopy (c : Dev nD) (k : P F) (Q : PUnit → sProp 𝕄) :
    iprop(wBuf m ρ c ∗ (∃ f : (cc0_scratch1 : Ref sig .tc).ty.Contents (Elt F), ((c : Thread nD τ).loc cc0_scratch1) ↦{fullShare} f)
        ∗ ((wBuf m ρ c ∗ WB m ρ c) -∗ wpc c Q k)) ⊢ wpc c Q (wcopy k) := by
  iintro ⟨Hw, ⟨%f, Hb⟩, Hk⟩
  unfold wcopy wpc WB
  iapply (wp_load 𝒱₀ (c : Thread nD τ) none Set.univ (m := wM) (Finset.subset_univ _)) $$ Hw; iintro Hw
  rw [read_w]
  iapply (wp_load 𝒱₀ (c : Thread nD τ) none Set.univ (m := wbM) (Finset.subset_univ _)) $$ Hb; iintro Hb
  iapply (wp_store 𝒱₀ (c : Thread nD τ) none Set.univ (m := wbM) (r := rW) (Mk := Finset.univ) (Finset.subset_univ _)) $$ Hb; iintro Hb
  rw [write_wb]
  iapply Hk
  isplitl [Hw]; · iexact Hw
  iexact Hb

end Cert.KernelIdeal.AG

end
-- ==== Proof.Leave.lean ====
/-
  The exit: every piece of the gather buffer back, every cell's counter back at zero, the result complete.
-/
module

public import proofs.«01_k».proof.Proof.Enter

@[expose] public section

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 idx2_lt0)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cx → ℕ)

/-- A persistent fact handed to every member of a family. -/
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-! ### The gather buffer whole again -/

theorem ld_end (c : Dev nD) : bigSep Finset.univ (ldF m ρ c 30 30 30)
    = iprop(((gp c 0 0 fullShare.right.left (gth m ρ c) ∗ gp c 0 1 fullShare.right.left (gth m ρ c))
      ∗ (gp c 0 1 fullShare.right.right (gth m ρ c) ∗ gp c 0 0 fullShare.right.right (gth m ρ c)))
      ∗ bigSep Finset.univ fun j : Fin 30 => gp c (dstS j) (hfM j) fullShare.right (gth m ρ c)) := by
  have h : ∀ j : Fin 30, ldF m ρ c 30 30 30 (Fin.natAdd 4 j) = gp c (dstS j) (hfM j) fullShare.right (gth m ρ c) := fun j => by
    have e1 : sk (Fin.natAdd 4 j) = dstS j := by revert j; decide
    have e2 : sh (Fin.natAdd 4 j) = hfM j := by revert j; decide
    have e3 : lq (Fin.natAdd 4 j).val = fullShare.right := by
      have : (Fin.natAdd 4 j).val = 4 + j.val := rfl
      unfold lq; rw [if_neg (by omega), if_neg (by omega)]
    unfold ldF
    rw [if_pos (by have := (Fin.natAdd 4 j).isLt; omega), e1, e2, e3]
  rw [show bigSep Finset.univ (ldF m ρ c 30 30 30) = bigSep Finset.univ (fun i : Fin (4 + 30) => ldF m ρ c 30 30 30 i) from rfl,
    bigSep_fin_add, bigSep_congr (fun j _ => h j),
    show (bigSep Finset.univ fun i : Fin 4 => ldF m ρ c 30 30 30 (Fin.castAdd 30 i)) = bigSep Finset.univ (fun i : Fin (2 + 2) => ldF m ρ c 30 30 30 (Fin.castAdd 30 i)) from rfl,
    bigSep_fin_add, bigSep_fin_two, bigSep_fin_two]
  rfl

theorem kp_end (c : Dev nD) : bigSep Finset.univ (kpF m ρ c 30)
    = iprop((gp c 0 0 fullShare.left (gth m ρ c) ∗ gp c 0 1 fullShare.left (gth m ρ c))
      ∗ bigSep Finset.univ fun j : Fin 30 => gp c (dstS j) (hfM j) fullShare.left (gth m ρ c)) := by
  have h : ∀ j : Fin 30, kpF m ρ c 30 (Fin.natAdd 2 j) = gp c (dstS j) (hfM j) fullShare.left (gth m ρ c) := fun j => by
    have e1 : pk (Fin.natAdd 2 j) = dstS j := by revert j; decide
    have e2 : ph (Fin.natAdd 2 j) = hfM j := by revert j; decide
    unfold kpF
    rw [if_pos (by have := (Fin.natAdd 2 j).isLt; omega), e1, e2]
  rw [show bigSep Finset.univ (kpF m ρ c 30) = bigSep Finset.univ (fun i : Fin (2 + 30) => kpF m ρ c 30 i) from rfl,
    bigSep_fin_add, bigSep_congr (fun j _ => h j), bigSep_fin_two]
  rfl

theorem share2 (c : Dev nD) (k : Fin 16) (h : Fin 2) (q : PosShare TreeShare) (f : (cc0_scratch0 : Ref sig .tc).ty.Contents (Elt F)) :
    iprop(gp (F := F) c k h q.left f ∗ gp c k h q.right f) ⊢ gp c k h q f := by
  unfold gp
  exact (pointsTo_share (PosShare.mem_left_op_right q)).2

/-- The landing pieces and slot 0: the buffer whole. -/
theorem rejoin (c : Dev nD) (f : (cc0_scratch0 : Ref sig .tc).ty.Contents (Elt F)) :
    iprop((((c : Thread nD τ).loc cc0_scratch0) ↦[landSet]{fullShare} f) ∗ slot0 c f)
      ⊢ (((c : Thread nD τ).loc cc0_scratch0) ↦{fullShare} f : sProp 𝕄) := by
  have h := (pointsTo_split_subset (Ix := Unit) (Name := ℕ) (U := UU) (Lvl := ℕ) (ℓ := (c : Thread nD τ).loc cc0_scratch0) (I := landSet) (S := Finset.univ) (q := fullShare) (f := f)
    (Finset.subset_univ _)).2
  exact h

/-- Every piece back, the buffer is whole. -/
theorem join_scratch (c : Dev nD) :
    iprop(bigSep Finset.univ (ldF m ρ c 30 30 30) ∗ bigSep Finset.univ (kpF m ρ c 30))
      ⊢ (((c : Thread nD τ).loc cc0_scratch0) ↦{fullShare} gth m ρ c : sProp 𝕄) := by
  have hL : (bigSep Finset.univ fun j : Fin 30 => gp c (dstS j) (hfM j) fullShare (gth m ρ c))
      = (((c : Thread nD τ).loc cc0_scratch0) ↦[landSet]{fullShare} gth m ρ c : sProp 𝕄) := by
    unfold landSet gp
    exact (pointsTo_biUnion (ℓ := (c : Thread nD τ).loc cc0_scratch0) Finset.univ _ (fun i _ j _ hij => piece_disjoint fun h => hij (dst_inj i j h))).symm
  have h0 : iprop(gp c 0 0 fullShare (gth m ρ c) ∗ gp c 0 1 fullShare (gth m ρ c)) ⊢ slot0 c (gth m ρ c) := by
    unfold slot0 gp
    rw [slot0_pieces]
    exact (pointsTo_union (ℓ := (c : Thread nD τ).loc cc0_scratch0) (piece_disjoint (by decide))).2
  have hj : iprop((bigSep Finset.univ fun j : Fin 30 => gp c (dstS j) (hfM j) fullShare.left (gth m ρ c))
      ∗ bigSep Finset.univ fun j : Fin 30 => gp c (dstS j) (hfM j) fullShare.right (gth m ρ c))
      ⊢ bigSep Finset.univ fun j : Fin 30 => gp c (dstS j) (hfM j) fullShare (gth m ρ c) := by
    rw [← bigSep_sep']
    exact bigSep_mono fun j _ => share2 c (dstS j) (hfM j) fullShare (gth m ρ c)
  have hend := rejoin (F := F) c (gth m ρ c)
  rw [ld_end, kp_end]
  iintro ⟨⟨⟨⟨A2, B2⟩, ⟨B3, A3⟩⟩, HR⟩, ⟨⟨A1, B1⟩, HL⟩⟩
  iapply hend
  isplitl [HR HL]
  · rw [← hL]
    iapply hj
    isplitl [HL]; · iexact HL
    iexact HR
  iapply h0
  isplitl [A1 A2 A3]
  · iapply (share2 c 0 0 fullShare (gth m ρ c))
    isplitl [A1]; · iexact A1
    iapply (share2 c 0 0 fullShare.right (gth m ρ c))
    isplitl [A2]; · iexact A2
    iexact A3
  iapply (share2 c 0 1 fullShare (gth m ρ c))
  isplitl [B1]; · iexact B1
  iapply (share2 c 0 1 fullShare.right (gth m ρ c))
  isplitl [B2]; · iexact B2
  iexact B3

/-! ### The cells closed -/

theorem close_rc (c : Dev nD) : iprop(recs m ρ K ∗ bigSep Finset.univ (rcF (F := F) c 30))
    ⊢ |={Set.univ}=> bigSep Finset.univ fun i : Fin 30 => semVal (rCell c i) 0 := by
  refine BIBase.Entails.trans ?_ (cells_close ER (Rd m ρ) Finset.univ (fun i : Fin 30 => rCell c i) (fun i => K (c, .inr (.inr i)))
    (fun _ _ => Set.mem_univ _) (fun _ _ h => h) (fun _ => 1) (fun i _ => duties_later m ρ (rCell c i)))
  refine with_all fun i _ => ?_
  have e : rcF (F := F) c 30 i = atPos ER (rCell c i) 1 ∅ 0 := by unfold rcF; rw [if_pos i.isLt]
  rw [e]
  iintro ⟨#HR, H⟩
  ihave ⟨#HI, -⟩ := (recs_at m ρ K (c, .inr (.inr i))) $$ HR
  isplitr; · iexact HI
  iexact H

theorem close_sc (c : Dev nD) : iprop(recs m ρ K ∗ bigSep Finset.univ (scF (F := F) c 30 30))
    ⊢ |={Set.univ}=> bigSep Finset.univ fun i : Fin 30 => semVal (sCell c i) 0 := by
  refine BIBase.Entails.trans ?_ (cells_close ER (Rd m ρ) Finset.univ (fun i : Fin 30 => sCell c i) (fun i => K (c, .inr (.inl i)))
    (fun _ _ => Set.mem_univ _) (fun _ _ h => h) (fun _ => 1) (fun i _ => duties_later m ρ (sCell c i)))
  refine with_all fun i _ => ?_
  have e : scF (F := F) c 30 30 i = atPos ER (sCell c i) 1 ∅ 0 := by unfold scF; rw [if_pos i.isLt]
  rw [e]
  iintro ⟨#HR, H⟩
  ihave ⟨#HI, -⟩ := (recs_at m ρ K (c, .inr (.inl i))) $$ HR
  isplitr; · iexact HI
  iexact H

/-- All thirty-two half slots done, the result is complete. -/
theorem out_done (c : Dev nD) (f : (cc0_stg2_0 : Ref sig .tc).ty.Contents (Elt F)) (hf : OutOK m ρ c 32 f) : f = outT m ρ c := by
  funext i
  have hi := (i 0).isLt
  change (i 0).val < 4096 at hi
  have hd : (i 0).val / 256 < 16 := by omega
  obtain ⟨p, hp⟩ := pkh_bij.2 (slotOf c (⟨(i 0).val / 256, hd⟩ : Fin 16), (⟨(i 0).val % 256 / 128, by omega⟩ : Fin 2))
  have h1 : pk p = slotOf c (⟨(i 0).val / 256, hd⟩ : Fin 16) := congrArg Prod.fst hp
  have h2 : ph p = ⟨(i 0).val % 256 / 128, by omega⟩ := congrArg Prod.snd hp
  refine hf p p.isLt i ?_
  rw [h1, h2, blk_slotOf]
  show (i 0).val / 128 = 2 * ((i 0).val / 256) + (i 0).val % 256 / 128
  omega

end Cert.KernelIdeal.AG

end
-- ==== Proof.Body.lean ====
/-
  The body step by step: the laps, the departures, what a device starts from and ends with.
-/
module

public import proofs.«01_k».proof.Proof.Leave

@[expose] public section

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 idx2_lt0)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cx → ℕ)

/-! ### The steps, each with what it leaves alone -/

theorem f_send (c : Dev nD) (i : Fin 30) (s r t : ℕ) (hs : i.val = s) (hr : s < r + 4) (ht : t ≤ s) {k : P F} {Q : PUnit → sProp 𝕄} {R : sProp 𝕄}
    (h : iprop(recs m ρ K ∗ levAts L lv ∗ St m ρ c r (s + 1) t ∗ R) ⊢ wpc c Q k) :
    iprop(recs m ρ K ∗ levAts L lv ∗ St m ρ c r s t ∗ R) ⊢ wpc c Q (send c i k) := by
  subst hs
  iintro ⟨#HR, #HL, HS, H⟩
  iapply (step_send m ρ K c i r t hr ht k Q)
  isplitr; · iexact HR
  isplitl [HS]; · iexact HS
  iintro HS
  iapply h
  isplitr; · iexact HR
  isplitr; · iexact HL
  isplitl [HS]; · iexact HS
  iexact H

theorem f_recv (c : Dev nD) (i : Fin 30) (r s t : ℕ) (hr : i.val = r) (hs : r < s) (hs' : s ≤ r + 4) (ht : t ≤ r) {k : P F} {Q : PUnit → sProp 𝕄} {R : sProp 𝕄}
    (h : iprop(recs m ρ K ∗ levAts L lv ∗ St m ρ c (r + 1) s t ∗ R) ⊢ wpc c Q k) :
    iprop(recs m ρ K ∗ levAts L lv ∗ St m ρ c r s t ∗ R) ⊢ wpc c Q (recv i k) := by
  subst hr
  iintro ⟨#HR, #HL, HS, H⟩
  iapply (step_recv m ρ K c i s t hs hs' ht k Q)
  isplitr; · iexact HR
  isplitr; · iexact HL
  isplitl [HS]; · iexact HS
  iintro HS
  iapply h
  isplitr; · iexact HR
  isplitr; · iexact HL
  isplitl [HS]; · iexact HS
  iexact H

theorem f_drain (c : Dev nD) (i : Fin 30) (t : ℕ) (ht : i.val = t) {k : P F} {Q : PUnit → sProp 𝕄} {R : sProp 𝕄}
    (h : iprop(recs m ρ K ∗ levAts L lv ∗ St m ρ c 30 30 (t + 1) ∗ R) ⊢ wpc c Q k) :
    iprop(recs m ρ K ∗ levAts L lv ∗ St m ρ c 30 30 t ∗ R) ⊢ wpc c Q (drain i k) := by
  subst ht
  iintro ⟨#HR, #HL, HS, H⟩
  iapply (step_drain m ρ K c i k Q)
  isplitr; · iexact HR
  isplitl [HS]; · iexact HS
  iintro HS
  iapply h
  isplitr; · iexact HR
  isplitr; · iexact HL
  isplitl [HS]; · iexact HS
  iexact H

theorem f_comp (c : Dev nD) (p : Fin 32) (kk : Fin 16) (hh : Fin 2) (n r s t : ℕ) (hk : pk p = kk) (hhh : ph p = hh) (hn : p.val = n) (hp : n < r + 2)
    {k : P F} {Q : PUnit → sProp 𝕄} {R : sProp 𝕄}
    (h : iprop(recs m ρ K ∗ levAts L lv ∗ St m ρ c r s t ∗ WB m ρ c ∗ OUT m ρ c (n + 1) ∗ R) ⊢ wpc c Q k) :
    iprop(recs m ρ K ∗ levAts L lv ∗ St m ρ c r s t ∗ WB m ρ c ∗ OUT m ρ c n ∗ R) ⊢ wpc c Q (comp c kk hh k) := by
  subst hn; subst hk; subst hhh
  iintro ⟨#HR, #HL, HS, HW, HO, H⟩
  iapply (step_comp m ρ c p r s t hp k Q)
  isplitl [HS]; · iexact HS
  isplitl [HW]; · iexact HW
  isplitl [HO]; · iexact HO
  iintro ⟨HS, HW, HO⟩
  iapply h
  isplitr; · iexact HR
  isplitr; · iexact HL
  isplitl [HS]; · iexact HS
  isplitl [HW]; · iexact HW
  isplitl [HO]; · iexact HO
  iexact H

theorem pk_dst (i : Fin 30) (h : i.val + 2 < 32) : pk ⟨i.val + 2, h⟩ = dstS i ∧ ph ⟨i.val + 2, h⟩ = hfM i := by revert i; decide

theorem f_comp2 (c : Dev nD) (i : Fin 30) (hi : i.val + 1 < 30) (n r s t : ℕ) (hn : i.val = n) (hr : n + 2 ≤ r) {k : P F} {Q : PUnit → sProp 𝕄} {R : sProp 𝕄}
    (h : iprop(recs m ρ K ∗ levAts L lv ∗ St m ρ c r s t ∗ WB m ρ c ∗ OUT m ρ c (n + 4) ∗ R) ⊢ wpc c Q k) :
    iprop(recs m ρ K ∗ levAts L lv ∗ St m ρ c r s t ∗ WB m ρ c ∗ OUT m ρ c (n + 2) ∗ R) ⊢ wpc c Q (comp2 c i hi k) := by
  unfold comp2
  refine f_comp m ρ K c ⟨i.val + 2, by omega⟩ _ _ (n + 2) r s t (pk_dst i (by omega)).1 (pk_dst i (by omega)).2 (by show i.val + 2 = _; omega) (by omega) ?_
  have h2 := pk_dst ⟨i.val + 1, hi⟩ (by show i.val + 1 + 2 < 32; omega)
  exact f_comp m ρ K c ⟨i.val + 1 + 2, by omega⟩ _ _ (n + 3) r s t h2.1 h2.2 (by show i.val + 1 + 2 = _; omega) (by omega) h

/-- One lap: two messages in, two on, two halves multiplied. -/
theorem lap (c : Dev nD) (n : ℕ) (i : Fin 26) (hi : i.val + 1 < 26) (j : Fin 30) (hj : j.val + 1 < 30) (hin : i.val = n) (hjn : j.val = n)
    {k : P F} {Q : PUnit → sProp 𝕄} {R : sProp 𝕄}
    (h : iprop(recs m ρ K ∗ levAts L lv ∗ St m ρ c (n + 2) (n + 6) 0 ∗ WB m ρ c ∗ OUT m ρ c (n + 4) ∗ R) ⊢ wpc c Q k) :
    iprop(recs m ρ K ∗ levAts L lv ∗ St m ρ c n (n + 4) 0 ∗ WB m ρ c ∗ OUT m ρ c (n + 2) ∗ R) ⊢ wpc c Q (hop c i hi (comp2 c j hj k)) := by
  unfold hop
  refine f_recv m ρ K c _ n (n + 4) 0 hin (by omega) (by omega) (by omega) ?_
  refine f_send m ρ K c _ (n + 4) (n + 1) 0 (by show i.val + 4 = _; omega) (by omega) (by omega) ?_
  refine f_recv m ρ K c _ (n + 1) (n + 5) 0 (by show i.val + 1 = _; omega) (by omega) (by omega) (by omega) ?_
  refine f_send m ρ K c _ (n + 5) (n + 2) 0 (by show i.val + 5 = _; omega) (by omega) (by omega) ?_
  exact f_comp2 m ρ K c j hj n (n + 2) (n + 6) 0 hjn (by omega) h

/-- The thirty departures awaited. -/
theorem drains_all (c : Dev nD) {Q : PUnit → sProp 𝕄} {R : sProp 𝕄}
    (h : iprop(recs m ρ K ∗ levAts L lv ∗ St m ρ c 30 30 30 ∗ R) ⊢ wpc c Q (.ret ⟨⟩)) :
    iprop(recs m ρ K ∗ levAts L lv ∗ St m ρ c 30 30 0 ∗ R) ⊢ wpc c Q drains := by
  unfold drains
  refine f_drain m ρ K c 0 0 rfl ?_
  refine f_drain m ρ K c 1 1 rfl ?_
  refine f_drain m ρ K c 2 2 rfl ?_
  refine f_drain m ρ K c 3 3 rfl ?_
  refine f_drain m ρ K c 4 4 rfl ?_
  refine f_drain m ρ K c 5 5 rfl ?_
  refine f_drain m ρ K c 6 6 rfl ?_
  refine f_drain m ρ K c 7 7 rfl ?_
  refine f_drain m ρ K c 8 8 rfl ?_
  refine f_drain m ρ K c 9 9 rfl ?_
  refine f_drain m ρ K c 10 10 rfl ?_
  refine f_drain m ρ K c 11 11 rfl ?_
  refine f_drain m ρ K c 12 12 rfl ?_
  refine f_drain m ρ K c 13 13 rfl ?_
  refine f_drain m ρ K c 14 14 rfl ?_
  refine f_drain m ρ K c 15 15 rfl ?_
  refine f_drain m ρ K c 16 16 rfl ?_
  refine f_drain m ρ K c 17 17 rfl ?_
  refine f_drain m ρ K c 18 18 rfl ?_
  refine f_drain m ρ K c 19 19 rfl ?_
  refine f_drain m ρ K c 20 20 rfl ?_
  refine f_drain m ρ K c 21 21 rfl ?_
  refine f_drain m ρ K c 22 22 rfl ?_
  refine f_drain m ρ K c 23 23 rfl ?_
  refine f_drain m ρ K c 24 24 rfl ?_
  refine f_drain m ρ K c 25 25 rfl ?_
  refine f_drain m ρ K c 26 26 rfl ?_
  refine f_drain m ρ K c 27 27 rfl ?_
  refine f_drain m ρ K c 28 28 rfl ?_
  refine f_drain m ρ K c 29 29 rfl ?_
  exact h

/-- The loop: from four messages sent and slot 0 multiplied to everything in and multiplied. -/
theorem loop_all (c : Dev nD) {Q : PUnit → sProp 𝕄} {R : sProp 𝕄}
    (h : iprop(recs m ρ K ∗ levAts L lv ∗ St m ρ c 30 30 30 ∗ WB m ρ c ∗ OUT m ρ c 32 ∗ R) ⊢ wpc c Q (.ret ⟨⟩)) :
    iprop(recs m ρ K ∗ levAts L lv ∗ St m ρ c 0 4 0 ∗ WB m ρ c ∗ OUT m ρ c 2 ∗ R) ⊢ wpc c Q (loop c) := by
  unfold loop
  refine lap m ρ K c 0 0 _ 0 _ rfl rfl ?_
  refine lap m ρ K c 2 2 _ 2 _ rfl rfl ?_
  refine lap m ρ K c 4 4 _ 4 _ rfl rfl ?_
  refine lap m ρ K c 6 6 _ 6 _ rfl rfl ?_
  refine lap m ρ K c 8 8 _ 8 _ rfl rfl ?_
  refine lap m ρ K c 10 10 _ 10 _ rfl rfl ?_
  refine lap m ρ K c 12 12 _ 12 _ rfl rfl ?_
  refine lap m ρ K c 14 14 _ 14 _ rfl rfl ?_
  refine lap m ρ K c 16 16 _ 16 _ rfl rfl ?_
  refine lap m ρ K c 18 18 _ 18 _ rfl rfl ?_
  refine lap m ρ K c 20 20 _ 20 _ rfl rfl ?_
  refine lap m ρ K c 22 22 _ 22 _ rfl rfl ?_
  refine lap m ρ K c 24 24 _ 24 _ rfl rfl ?_
  refine f_recv m ρ K c 26 26 30 0 rfl (by omega) (by omega) (by omega) ?_
  refine f_recv m ρ K c 27 27 30 0 rfl (by omega) (by omega) (by omega) ?_
  refine f_comp2 m ρ K c 26 _ 26 28 30 0 rfl (by omega) ?_
  refine f_recv m ρ K c 28 28 30 0 rfl (by omega) (by omega) (by omega) ?_
  refine f_recv m ρ K c 29 29 30 0 rfl (by omega) (by omega) (by omega) ?_
  refine f_comp2 m ρ K c 28 _ 28 30 30 0 rfl (by omega) ?_
  exact drains_all m ρ K c h

/-- From slot 0 filled to the end. -/
theorem after_fill (c : Dev nD) {Q : PUnit → sProp 𝕄} :
    iprop(recs m ρ K ∗ levAts L lv ∗ St m ρ c 0 0 0 ∗ wBuf m ρ c ∗ (∃ f : (cc0_scratch1 : Ref sig .tc).ty.Contents (Elt F), ((c : Thread nD τ).loc cc0_scratch1) ↦{fullShare} f)
        ∗ OUT m ρ c 0
        ∗ ((St m ρ c 30 30 30 ∗ WB m ρ c ∗ OUT m ρ c 32 ∗ wBuf m ρ c) -∗ wpc c Q (.ret ⟨⟩)))
      ⊢ wpc c Q (send c 0 <| send c 1 <| send c 2 <| send c 3 <| wcopy <| comp c 0 0 <| comp c 0 1 <| loop c) := by
  have hl : iprop(recs m ρ K ∗ levAts L lv ∗ St m ρ c 0 4 0 ∗ WB m ρ c ∗ OUT m ρ c 0 ∗ wBuf m ρ c
      ∗ ((St m ρ c 30 30 30 ∗ WB m ρ c ∗ OUT m ρ c 32 ∗ wBuf m ρ c) -∗ wpc c Q (.ret ⟨⟩))) ⊢ wpc c Q (comp c 0 0 <| comp c 0 1 <| loop c) := by
    refine f_comp m ρ K c 0 0 0 0 0 4 0 rfl rfl rfl (by omega) ?_
    refine f_comp m ρ K c 1 0 1 1 0 4 0 rfl rfl rfl (by omega) ?_
    refine loop_all m ρ K c ?_
    iintro ⟨-, -, HS, HW, HO, Hw, Hk⟩
    iapply Hk
    isplitl [HS]; · iexact HS
    isplitl [HW]; · iexact HW
    isplitl [HO]; · iexact HO
    iexact Hw
  refine f_send m ρ K c 0 0 0 0 rfl (by omega) (by omega) ?_
  refine f_send m ρ K c 1 1 0 0 rfl (by omega) (by omega) ?_
  refine f_send m ρ K c 2 2 0 0 rfl (by omega) (by omega) ?_
  refine f_send m ρ K c 3 3 0 0 rfl (by omega) (by omega) ?_
  iintro ⟨#HR, #HL, HS, Hw, Hb, HO, Hk⟩
  iapply (step_wcopy m ρ c _ Q)
  isplitl [Hw]; · iexact Hw
  isplitl [Hb]; · iexact Hb
  iintro ⟨Hw, HW⟩
  iapply hl
  isplitr; · iexact HR
  isplitr; · iexact HL
  isplitl [HS]; · iexact HS
  isplitl [HW]; · iexact HW
  isplitl [HO]; · iexact HO
  isplitl [Hw]; · iexact Hw
  iexact Hk

/-! ### What a device starts from and ends with -/

/-- Positions and tokens of device `c`. -/
def linear (c : Dev nD) : sProp 𝕄 :=
  iprop(atPos ER (barCell c) 0 ∅ 0 ∗ (bigSep Finset.univ fun i : Fin 30 => atPos ER (sCell c i) 0 ∅ 0) ∗ (bigSep Finset.univ fun i : Fin 30 => atPos ER (rCell c i) 0 ∅ 0)
    ∗ dutyTok ER (barCell (lft c)) 0 0 ∗ dutyTok ER (barCell (rgt c)) 0 1
    ∗ (bigSep Finset.univ fun i : Fin 30 => dutyTok ER (sCell c i) 0 0) ∗ (bigSep Finset.univ fun i : Fin 30 => dutyTok ER (rCell (nbr c i) i) 0 0))

def start (c : Dev nD) : sProp 𝕄 :=
  iprop((∃ K, recs m ρ K ∗ linear (F := F) c) ∗ cred (tallyAt (barCell c) () 2)
    ∗ (bigSep Finset.univ fun i : Fin 30 => cred (tallyAt (rCell c i) () N)) ∗ levAts L lv)

def Φ₀ (c : Dev nD) : sProp 𝕄 :=
  iprop(start m ρ c ∗ (∃ f : (cc0_scratch0 : Ref sig .tc).ty.Contents (Elt F), ((c : Thread nD τ).loc cc0_scratch0) ↦{fullShare} f)
    ∗ (∃ f : (cc0_scratch1 : Ref sig .tc).ty.Contents (Elt F), ((c : Thread nD τ).loc cc0_scratch1) ↦{fullShare} f))

def Φ₁ (c : Dev nD) : sProp 𝕄 :=
  iprop((∃ f : (cc0_scratch0 : Ref sig .tc).ty.Contents (Elt F), ((c : Thread nD τ).loc cc0_scratch0) ↦{fullShare} f)
    ∗ (∃ f : (cc0_scratch1 : Ref sig .tc).ty.Contents (Elt F), ((c : Thread nD τ).loc cc0_scratch1) ↦{fullShare} f)
    ∗ semVal (barCell c) 0 ∗ (bigSep Finset.univ fun i : Fin 30 => semVal (sCell c i) 0) ∗ (bigSep Finset.univ fun i : Fin 30 => semVal (rCell c i) 0))

theorem rc_start (c : Dev nD) : iprop((bigSep Finset.univ fun i : Fin 30 => atPos ER (rCell c i) 0 ∅ 0) ∗ bigSep Finset.univ fun i : Fin 30 => cred (tallyAt (rCell c i) () N))
    ⊢ bigSep Finset.univ (rcF (F := F) c 0) := by
  rw [← bigSep_sep']
  refine Entails.of_eq (bigSep_congr fun i _ => ?_)
  unfold rcF; rw [if_neg (by omega)]

theorem sc_start (c : Dev nD) : iprop((bigSep Finset.univ fun i : Fin 30 => atPos ER (sCell c i) 0 ∅ 0) ∗ (bigSep Finset.univ fun i : Fin 30 => dutyTok ER (sCell c i) 0 0)
      ∗ (bigSep Finset.univ fun i : Fin 30 => dutyTok ER (rCell (nbr c i) i) 0 0) ∗ bigSep Finset.univ fun i : Fin 30 => iprop(∃ f, gp (F := F) (nbr c i) (dstS i) (hfM i) fullShare f))
    ⊢ bigSep Finset.univ (scF (F := F) c 0 0) := by
  rw [← bigSep_sep', ← bigSep_sep', ← bigSep_sep']
  refine Entails.of_eq (bigSep_congr fun i _ => ?_)
  unfold scF; rw [if_neg (by omega), if_neg (by omega)]

/-- The end: every cell closed, the buffers whole. -/
theorem finish (c : Dev nD) (f0 : (cc0_scratch0 : Ref sig .tc).ty.Contents (Elt F)) : iprop(recs m ρ K ∗ atPos ER (barCell c) 1 ∅ 0 ∗ St m ρ c 30 30 30 ∗ WB m ρ c)
    ⊢ |={Set.univ}=> iprop(Φ₁ (F := F) c ∗ ∃ W, owes (c : Thread nD τ) 0 W) := by
  unfold St WB Φ₁
  iintro ⟨#HR, Hat, ⟨⟨%W, HO⟩, Hrc, Hsc, Hld, Hkp⟩, HW⟩
  ihave ⟨#HI, -⟩ := (recs_at m ρ K (c, .inl ())) $$ HR
  imod (Rounds.cell_close ER (Rd m ρ) (Set.mem_univ (K (c, .inl ()))) (fun h => h) (R := 0 + 1) (duties_later m ρ (barCell c))) $$ [Hat] with HzB
  · isplitr; · iexact HI
    iexact Hat
  imod (close_sc m ρ K c) $$ [Hsc] with HzS
  · isplitr; · iexact HR
    iexact Hsc
  imod (close_rc m ρ K c) $$ [Hrc] with HzR
  · isplitr; · iexact HR
    iexact Hrc
  ihave Hg := (join_scratch m ρ c) $$ [Hld Hkp]
  · isplitl [Hld]; · iexact Hld
    iexact Hkp
  imodintro
  isplitr [HO]
  · isplitl [Hg]; · iexists _; iexact Hg
    isplitl [HW]; · iexists _; iexact HW
    isplitl [HzB]; · iexact HzB
    isplitl [HzS]; · iexact HzS
    iexact HzR
  iexists W
  rw [← O_end c]
  iexact HO

/-- The body, from what the launch hands over to what it takes back. -/
theorem body_run (c : Dev nD) (W : Waits sig Unit) (Q : PUnit → sProp 𝕄) :
    iprop(Φ₀ m ρ c ∗ owes (c : Thread nD τ) (O₀ c) W ∗ xBuf m ρ c ∗ wBuf m ρ c ∗ (∃ f : (cc0_stg2_0 : Ref sig .tc).ty.Contents (Elt F), ((c : Thread nD τ).loc cc0_stg2_0) ↦{fullShare} f)
        ∗ ((Φ₁ (F := F) c ∗ (∃ W, owes (c : Thread nD τ) 0 W) ∗ xBuf m ρ c ∗ wBuf m ρ c ∗ (((c : Thread nD τ).loc cc0_stg2_0) ↦{fullShare} outT m ρ c)) -∗ Q ⟨⟩))
      ⊢ wpc c Q prog := by
  unfold prog wpc
  rw [wp_deviceId]
  unfold Φ₀ start linear
  iintro ⟨⟨⟨⟨%K, #HR, HatB, HatS, HatR, Ht1, Ht2, HtS, HtR⟩, HcB, HcR, #HL⟩, ⟨%f0, Hscr⟩, Hb⟩, HO, Hx, Hw, ⟨%fo, Hout⟩, Hk⟩
  iapply (step_barrier m ρ K c f0 W _ Q)
  isplitr; · iexact HR
  isplitr; · iexact HL
  isplitl [Hscr]; · iexact Hscr
  isplitl [HO]; · iexact HO
  isplitl [Ht1]; · iexact Ht1
  isplitl [Ht2]; · iexact Ht2
  isplitl [HatB]; · iexact HatB
  isplitl [HcB]; · iexact HcB
  iintro ⟨HO, HatB, Hs0, Hnb⟩
  ihave Hrc := (rc_start (F := F) c) $$ [HatR HcR]
  · isplitl [HatR]; · iexact HatR
    iexact HcR
  ihave Hsc := (sc_start (F := F) c) $$ [HatS HtS HtR Hnb]
  · isplitl [HatS]; · iexact HatS
    isplitl [HtS]; · iexact HtS
    isplitl [HtR]; · iexact HtR
    iexact Hnb
  iapply (step_fill m ρ c f0 _ Q)
  isplitl [Hx]; · iexact Hx
  isplitl [Hs0]; · iexact Hs0
  iintro ⟨Hx, Hld, Hkp⟩
  iapply (after_fill m ρ K c)
  isplitr; · iexact HR
  isplitr; · iexact HL
  isplitl [HO Hrc Hsc Hld Hkp]
  · unfold St
    isplitl [HO]; · iexact HO
    isplitl [Hrc]; · iexact Hrc
    isplitl [Hsc]; · iexact Hsc
    isplitl [Hld]; · iexact Hld
    iexact Hkp
  isplitl [Hw]; · iexact Hw
  isplitl [Hb]; · iexact Hb
  isplitl [Hout]
  · unfold OUT
    iexists fo
    isplitr; · ipureintro; exact fun p hp => absurd hp (Nat.not_lt_zero _)
    iexact Hout
  iintro ⟨HS, HW, HOut, Hw⟩
  unfold wpc
  rw [wp_ret]
  imod (finish m ρ K c f0) $$ [HatB HS HW] with ⟨HΦ, HO⟩
  · isplitr; · iexact HR
    isplitl [HatB]; · iexact HatB
    isplitl [HS]; · iexact HS
    iexact HW
  imodintro
  iapply Hk
  isplitl [HΦ]; · iexact HΦ
  isplitl [HO]; · iexact HO
  isplitl [Hx]; · iexact Hx
  isplitl [Hw]; · iexact Hw
  unfold OUT
  icases HOut with ⟨%f, %hf, Hf⟩
  have e := out_done m ρ c f hf
  subst e
  iexact Hf

/-! ### The pipeline's data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outT m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem owns_whole_is (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, held c cc0_stg0_0 ((dats m ρ 0 c).before (0 : Fin 3) t0_0 d))
    ∗ (∃ d, held c cc0_stg1_0 ((dats m ρ 0 c).before (1 : Fin 3) t0_0 d))
    ∗ (∃ d, held c cc0_stg2_0 ((dats m ρ 0 c).before (2 : Fin 3) t0_0 d)))

def bodyPost (c : Dev nD) : sProp 𝕄 :=
  iprop(Φ₁ (F := F) c ∗ (dats m ρ 0 c).owesAt () t0_0.succ ∗ held c cc0_stg0_0 (xstg m ρ c) ∗ held c cc0_stg1_0 (wstg m ρ c) ∗ held c cc0_stg2_0 (outT m ρ c))

theorem sound_body (c : Dev nD) : bodyPre m ρ c ⊢ wpc c (fun _ => bodyPost m ρ c) prog := by
  unfold bodyPre Dat.owesAt Pipeline.owesWithin
  iintro ⟨HΦ, ⟨%W, %hW, HO⟩, ⟨%d0, %g0, %hg0, Hx⟩, ⟨%d1, %g1, %hg1, Hw⟩, ⟨%d2, %g2, %hg2, Hout⟩⟩
  have hx : g0 = xstg m ρ c := by rw [hg0]; unfold Dat.before; rw [if_pos (by rfl)]; rfl
  have hw : g1 = wstg m ρ c := by rw [hg1]; unfold Dat.before; rw [if_pos (by rfl)]; rfl
  subst hx; subst hw
  rw [show (dats m ρ 0 c).owed t0_0.castSucc = O₀ c from rfl]
  iapply (body_run m ρ c W)
  isplitl [HΦ]; · iexact HΦ
  isplitl [HO]; · iexact HO
  isplitl [Hx]; · iexact Hx
  isplitl [Hw]; · iexact Hw
  isplitl [Hout]; · iexists g2; iexact Hout
  iintro ⟨HΦ, ⟨%W', HO⟩, Hx, Hw, Hout⟩
  unfold bodyPost Dat.owesAt Pipeline.owesWithin
  isplitl [HΦ]; · iexact HΦ
  isplitl [HO]
  · iexists W'
    isplitr; · ipureintro; exact fun _ _ => Or.inl trivial
    iexact HO
  isplitl [Hx]; · iexists _; isplitr; · (ipureintro; rfl)
                  iexact Hx
  isplitl [Hw]; · iexists _; isplitr; · (ipureintro; rfl)
                  iexact Hw
  iexists _; isplitr; · (ipureintro; rfl)
  iexact Hout

set_option maxRecDepth 65536 in
/-- The body meets its data. -/
theorem body_obligation (c : Dev nD) : BodyObligation (dats (F := F) m ρ 0 c) (defs₀ (F := F)) 𝒱₀ () Set.univ := fun t => by
  rw [fin_N0 t]
  rw [bigSep_W0, bigSep_W0]
  simp only [owns_whole_is]
  show bodyPre m ρ c ⊢ wp frame (wpE (defs₀ (F := F)) 𝒱₀ (c : Thread nD τ) none) Set.univ (bodyAt0 (F := F) t0_0) (fun _ => bodyPost m ρ c)
  rw [body_eq]
  exact sound_body m ρ c

end Cert.KernelIdeal.AG

end
-- ==== Proof.Run.lean ====
/-
  The launch: the cells put under invariants, tokens and credit dealt, the whole run.
-/
module

public import proofs.«01_k».proof.Proof.Body
public import Idealize.ShloMosaic.Lib.Pipeline.Launch
public import Idealize.ShloMosaic.Lib.Pipeline.Kit
public import Idealize.ShloMosaic.Lib.Tactic
public import Idealize.ShloMosaic.Lib.Pipeline.CollectiveSegs

@[expose] public section

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 idx2_lt0)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The kernel's own semaphores and the runtime's -/

abbrev osem (x : Fin 30 ⊕ Fin 30) : SemLoc sig := csem (.inr x)

theorem kd_csem (x : Cx) : kd (csem x) = (match x with | .inl _ => .bar | .inr (.inl i) => .snd i | .inr (.inr i) => .rcv i) := by
  rcases x with u | i | i
  · rfl
  · exact kd_snd i
  · exact kd_rcv i

theorem csem_injective : Function.Injective csem := fun x y h => by
  have h' := congrArg kd h
  rw [kd_csem, kd_csem] at h'
  rcases x with u | i | i <;> rcases y with v | j | j <;> first | rfl | (injection h' with e; subst e; rfl) | exact absurd h' (by simp)

theorem osem_scoped : ∀ x : Fin 30 ⊕ Fin 30, (osem x).isScoped .tc = true := by decide +kernel

theorem ownSemFacts : Pipeline.OwnSemFacts cfg0.spec osem where
  isScoped := osem_scoped
  inj := fun x y h => Sum.inr_injective (csem_injective h)
  disj := fun x w s h => by
    have h' := congrArg kd h
    rw [kd_csem] at h'
    have h2 : kd (.dma ((cfg0.spec w).sem s)) = .stg := by fin_cases w <;> fin_cases s <;> rfl
    rw [h2] at h'
    rcases x with i | i <;> exact absurd h' (by simp)

theorem share_full (c : Dev nD) (w : Fin cfg0.W) : (dats m ρ 0 c).share w = fullShare := by unfold Dat.share; split <;> rfl

theorem kcell_injective : Function.Injective (kcell : Dev nD × Cx → GSem nD τ sig) := by
  rintro ⟨c, x⟩ ⟨c', x'⟩ h
  have h1 : c = c' := congrArg (fun g : GSem nD τ sig => g.1.1) h
  have h2 : x = x' := csem_injective (congrArg Prod.snd h)
  rw [h1, h2]

def agCells : Finset (GSem nD τ sig) := Finset.univ.map ⟨kcell, kcell_injective⟩

/-- Each cell's duties: two at a barrier cell, one at the others. -/
abbrev Tx : Type := Fin 2 ⊕ Fin 30 ⊕ Fin 30
def cOf : Tx → Cx
  | .inl _ => .inl ()
  | .inr y => .inr y
def dOf : Tx → Fin 2
  | .inl d => d
  | .inr _ => 0
abbrev tokOf (cx : Dev nD × Tx) : GSem nD τ sig × ℕ × Fin 2 := (kcell (cx.1, cOf cx.2), 0, dOf cx.2)
theorem tokOf_injective : Function.Injective tokOf := by
  rintro ⟨c, x⟩ ⟨c', x'⟩ h
  have h1 := kcell_injective (congrArg Prod.fst h)
  have h2 : c = c' := congrArg Prod.fst h1
  have h3 : cOf x = cOf x' := congrArg Prod.snd h1
  have h4 : dOf x = dOf x' := congrArg (fun y => y.2.2) h
  subst h2
  have : x = x' := by
    rcases x with d | y <;> rcases x' with d' | y'
    · exact congrArg _ h4
    · exact absurd h3 (by simp [cOf])
    · exact absurd h3 (by simp [cOf])
    · exact congrArg Sum.inr (Sum.inr_injective h3)
  rw [this]
def agToks : Finset (GSem nD τ sig × ℕ × Fin 2) := Finset.univ.map ⟨tokOf, tokOf_injective⟩

def u₀ : UU := (initOf (Pipeline.cells cfgs cellOf_inj) (Pipeline.launchToks cfgs cellOf_inj), initOf agCells agToks)

theorem bigSep_sum2 {A B : Type} [Fintype A] [Fintype B] (Φ : A ⊕ B → sProp 𝕄) :
    bigSep Finset.univ Φ = iprop(bigSep Finset.univ (fun a => Φ (.inl a)) ∗ bigSep Finset.univ (fun b => Φ (.inr b))) := bigSep_univ_sum Φ

theorem bigSep_one (Φ : Unit → sProp 𝕄) : bigSep Finset.univ Φ = Φ () := by
  rw [show (Finset.univ : Finset Unit) = {()} from rfl, bigSep_singleton]

theorem over_cells (Φ : Cx → sProp 𝕄) : bigSep Finset.univ Φ
    = iprop(Φ (.inl ()) ∗ (bigSep Finset.univ fun i : Fin 30 => Φ (.inr (.inl i))) ∗ bigSep Finset.univ fun i : Fin 30 => Φ (.inr (.inr i))) := by
  rw [bigSep_sum2, bigSep_one, bigSep_sum2]

/-- The tokens of device `c`'s own cells. -/
def toks (c : Dev nD) : sProp 𝕄 :=
  iprop((dutyTok ER (barCell c) 0 0 ∗ dutyTok ER (barCell c) 0 1) ∗ (bigSep Finset.univ fun i : Fin 30 => dutyTok ER (sCell c i) 0 0)
    ∗ bigSep Finset.univ fun i : Fin 30 => dutyTok ER (rCell c i) 0 0)

/-- The tokens device `c` pays with. -/
def pays (c : Dev nD) : sProp 𝕄 :=
  iprop(dutyTok ER (barCell (lft c)) 0 0 ∗ dutyTok ER (barCell (rgt c)) 0 1 ∗ (bigSep Finset.univ fun i : Fin 30 => dutyTok ER (sCell c i) 0 0)
    ∗ bigSep Finset.univ fun i : Fin 30 => dutyTok ER (rCell (nbr c i) i) 0 0)

def G (c : Dev nD) : sProp 𝕄 :=
  iprop((bigSep Finset.univ fun x : Cx => roundState ER (Rd m ρ) (kcell (c, x)) 0)
    ∗ (bigSep Finset.univ fun x : Cx => iprop(atPos ER (kcell (c, x)) 0 ∅ 0 ∗ reached ER (kcell (c, x)) 0)) ∗ toks (F := F) c)

def G' (c : Dev nD) : sProp 𝕄 := iprop(∃ K, recs m ρ K ∗ linear (F := F) c)

/-- The protocol's element, dealt to the devices. -/
theorem fund_all : BI.own (ER (initOf agCells agToks)) ⊢ (|==> bigSep Finset.univ (G m ρ) : sProp 𝕄) := by
  have hX (Φ : GSem nD τ sig → sProp 𝕄) : bigSep agCells Φ = bigSep Finset.univ fun c : Dev nD => bigSep Finset.univ fun x : Cx => Φ (kcell (c, x)) := by
    unfold agCells; rw [bigSep_map, bigSep_univ_prod]; rfl
  have hT : bigSep agToks (fun x => (dutyTok ER x.1 x.2.1 x.2.2 : sProp 𝕄)) = bigSep Finset.univ fun c : Dev nD => toks (F := F) c := by
    unfold agToks; rw [bigSep_map, bigSep_univ_prod]
    exact bigSep_congr fun c _ => by unfold toks; rw [bigSep_sum2, bigSep_fin_two, bigSep_sum2]; rfl
  iintro HX
  imod (Rounds.fund ER (Rd m ρ) agCells agToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']
    · iexact Hat'
    iexact Hr'
  iexact Htok'

theorem unscoped_is (c : Dev nD) : (unscopedSems0 c : sProp 𝕄) = semVal (barCell c) 0 := by
  unfold unscopedSems0; rw [bigSep_eq_bigSepL_of_eq [SemLoc.reg barS] (by decide) (by decide)]; rfl

theorem own_is (c : Dev nD) : (Pipeline.ownSems0 (Ix := Unit) (Name := ℕ) (U := UU) (Lvl := ℕ) (Val := Elt F) (τ := τ) osem c : sProp 𝕄)
    = iprop((bigSep Finset.univ fun i : Fin 30 => semVal (sCell c i) 0) ∗ bigSep Finset.univ fun i : Fin 30 => semVal (rCell c i) 0) := by
  unfold Pipeline.ownSems0; rw [bigSep_sum2]; rfl

theorem counters (c : Dev nD) :
    iprop(Pipeline.ownSems0 (Ix := Unit) (Name := ℕ) (U := UU) (Lvl := ℕ) (Val := Elt F) (τ := τ) osem c ∗ unscopedSems0 c)
      ⊢ (bigSep Finset.univ fun x : Cx => semVal (kcell (c, x)) 0 : sProp 𝕄) := by
  rw [own_is, unscoped_is, over_cells]
  iintro ⟨⟨HS, HV⟩, HB⟩
  isplitl [HB]; · iexact HB
  isplitl [HS]; · iexact HS
  iexact HV

/-- A device's cells put under invariants. -/
theorem alloc_dev (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : Cx => iprop(∃ κ : ℕ, cellInv ER (Rd m ρ) κ (kcell (c, x))))
          ∗ (bigSep Finset.univ fun x : Cx => iprop(atPos ER (kcell (c, x)) 0 ∅ 0 ∗ reached ER (kcell (c, x)) 0)) ∗ toks (F := F) c) := by
  have hinv : iprop((bigSep Finset.univ fun x : Cx => semVal (kcell (c, x)) 0) ∗ bigSep Finset.univ fun x : Cx => roundState ER (Rd m ρ) (kcell (c, x)) 0)
      ⊢ (|={Set.univ}=> bigSep Finset.univ fun x : Cx => iprop(∃ κ : ℕ, cellInv ER (Rd m ρ) κ (kcell (c, x))) : sProp 𝕄) := by
    rw [← bigSep_sep']
    exact (bigSep_mono fun x _ => (Rounds.body_intro ER (Rd m ρ) (kcell (c, x))).trans inv_alloc).trans (bigSep_fupd _ _)
  unfold G
  iintro ⟨Hos, Hus, Hst, Hat, Htok⟩
  ihave Hv := (counters (F := F) c) $$ [Hos Hus]
  · isplitl [Hos]; · iexact Hos
    iexact Hus
  imod hinv $$ [Hv Hst] with Hinv
  · isplitl [Hv]; · iexact Hv
    iexact Hst
  imodintro
  isplitl [Hinv]; · iexact Hinv
  isplitl [Hat]; · iexact Hat
  iexact Htok

/-- The neighbour a message goes to, as a matching of the devices. -/
def nbrE (i : Fin 30) : Dev nD ≃ Dev nD := if i.val % 2 = 0 then ringE else ringE.symm
theorem nbrE_apply (i : Fin 30) (c : Dev nD) : nbrE i c = nbr c i := by
  unfold nbrE nbr; split <;> rfl

/-- Messages matched by receiver and by sender. -/
def msgE : Dev nD × Fin 30 ≃ Dev nD × Fin 30 where
  toFun ci := (nbrE ci.2 ci.1, ci.2)
  invFun ci := ((nbrE ci.2).symm ci.1, ci.2)
  left_inv ci := by simp
  right_inv ci := by simp

/-- The tokens dealt from the cells' devices to those that pay. -/
theorem toks_dealt : (bigSep Finset.univ fun c : Dev nD => (toks (F := F) c : sProp 𝕄)) ⊢ bigSep Finset.univ fun c : Dev nD => pays (F := F) c := by
  have hr : (bigSep Finset.univ fun c : Dev nD => bigSep Finset.univ fun i : Fin 30 => (dutyTok ER (rCell c i) 0 0 : sProp 𝕄))
      = bigSep Finset.univ fun c : Dev nD => bigSep Finset.univ fun i : Fin 30 => dutyTok ER (rCell (nbr c i) i) 0 0 := by
    rw [← bigSep_univ_prod (fun ci : Dev nD × Fin 30 => (dutyTok ER (rCell ci.1 ci.2) 0 0 : sProp 𝕄)),
      ← bigSep_univ_prod (fun ci : Dev nD × Fin 30 => (dutyTok ER (rCell (nbr ci.1 ci.2) ci.2) 0 0 : sProp 𝕄)),
      bigSep_univ_equiv msgE (fun ci : Dev nD × Fin 30 => (dutyTok ER (rCell ci.1 ci.2) 0 0 : sProp 𝕄))]
    exact bigSep_congr fun ci _ => by
      show (dutyTok ER (rCell (nbrE ci.2 ci.1) ci.2) 0 0 : sProp 𝕄) = _
      rw [nbrE_apply]
  unfold toks pays
  rw [bigSep_sep', bigSep_sep', bigSep_sep', bigSep_sep', bigSep_sep', bigSep_sep', hr,
    bigSep_univ_equiv ringE.symm (fun c : Dev nD => (dutyTok ER (barCell c) 0 0 : sProp 𝕄)),
    bigSep_univ_equiv ringE (fun c : Dev nD => (dutyTok ER (barCell c) 0 1 : sProp 𝕄))]
  iintro ⟨⟨H1, H2⟩, H3, H4⟩
  isplitl [H1]; · iexact H1
  isplitl [H2]; · iexact H2
  isplitl [H3]; · iexact H3
  iexact H4

theorem linear_intro (c : Dev nD) : iprop((bigSep Finset.univ fun x : Cx => (atPos ER (kcell (c, x)) 0 ∅ 0 : sProp 𝕄)) ∗ pays (F := F) c) ⊢ linear (F := F) c := by
  unfold linear pays
  rw [over_cells]
  iintro ⟨⟨HB, HS, HR⟩, H1, H2, H3, H4⟩
  isplitl [HB]; · iexact HB
  isplitl [HS]; · iexact HS
  isplitl [HR]; · iexact HR
  isplitl [H1]; · iexact H1
  isplitl [H2]; · iexact H2
  isplitl [H3]; · iexact H3
  iexact H4

theorem give (K : Dev nD × Cx → ℕ) (c : Dev nD) : iprop(recs m ρ K ∗ linear (F := F) c) ⊢ G' m ρ c := by
  unfold G'
  iintro ⟨#HR, HL⟩
  iexists K
  isplitr; · iexact HR
  iexact HL

/-- All devices' invariants gathered, each device its positions and tokens. -/
theorem deal :
    (bigSep Finset.univ fun c : Dev nD => iprop((bigSep Finset.univ fun x : Cx => iprop(∃ κ : ℕ, cellInv ER (Rd m ρ) κ (kcell (c, x))))
          ∗ (bigSep Finset.univ fun x : Cx => iprop(atPos ER (kcell (c, x)) 0 ∅ 0 ∗ reached ER (kcell (c, x)) 0)) ∗ toks (F := F) c) : sProp 𝕄)
      ⊢ bigSep Finset.univ (G' m ρ) := by
  rw [bigSep_sep', bigSep_sep', ← bigSep_univ_prod (fun ck : Dev nD × Cx => iprop(∃ κ : ℕ, cellInv ER (Rd m ρ) κ (kcell ck))),
    bigSep_congr (s := Finset.univ) (fun (c : Dev nD) _ => bigSep_sep' Finset.univ (fun x : Cx => (atPos ER (kcell (c, x)) 0 ∅ 0 : sProp 𝕄)) (fun x => reached ER (kcell (c, x)) 0)),
    bigSep_sep', ← bigSep_univ_prod (fun ck : Dev nD × Cx => (reached ER (kcell ck) 0 : sProp 𝕄))]
  iintro ⟨HI, ⟨Hat, HR⟩, Htok⟩
  ihave HK := (BI.bigSep_exists_pi Finset.univ (fun (ck : Dev nD × Cx) (κ : ℕ) => (cellInv ER (Rd m ρ) κ (kcell ck) : sProp 𝕄))) $$ HI
  icases HK with ⟨%K, HI⟩
  ihave Htk := (toks_dealt (F := F)) $$ Htok
  iapply (with_all (R := recs m ρ K) fun c _ => give m ρ K c)
  isplitl [HI HR]
  · unfold recs
    iapply (Entails.of_eq (bigSep_sep' Finset.univ (fun ck : Dev nD × Cx => (cellInv ER (Rd m ρ) (K ck) (kcell ck) : sProp 𝕄)) (fun ck => reached ER (kcell ck) 0)).symm)
    isplitl [HI]; · iexact HI
    iexact HR
  iapply ((Entails.of_eq (bigSep_sep' Finset.univ (fun c : Dev nD => bigSep Finset.univ fun x : Cx => (atPos ER (kcell (c, x)) 0 ∅ 0 : sProp 𝕄)) (pays (F := F))).symm).trans
      (bigSep_mono fun c _ => linear_intro (F := F) c))
  isplitl [Hat]; · iexact Hat
  iexact Htk

theorem global_step : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc_dev m ρ c).trans (bigSep_fupd _ _)).trans (BI.fupd_mono (deal m ρ))

/-! ### The launch's credit -/

theorem cell_dev {c c' : Dev nD} {x y : SemLoc sig} (h : (((c : Thread nD τ), x) : GSem nD τ sig) = ((c' : Thread nD τ), y)) : c = c' :=
  congrArg (fun g : GSem nD τ sig => g.1.1) h
theorem rCell_inj {c c' : Dev nD} {i j : Fin 30} (h : rCell c i = rCell c' j) : c = c' ∧ i = j := by
  refine ⟨cell_dev h, ?_⟩
  have h2 := congrArg (fun g : GSem nD τ sig => kd g.2) h
  simp only [kd_rcv] at h2
  injection h2
theorem rCell_ne_bar {c c' : Dev nD} {i : Fin 30} : rCell c i ≠ barCell c' := fun h => by
  have h2 := congrArg (fun g : GSem nD τ sig => kd g.2) h
  simp only [kd_rcv, kd_bar] at h2
  injection h2

theorem tally_if (g g' : GSem nD τ sig) (n : ℕ) : (tallyAt g () n : CellTallies nD τ sig Unit) g' () = if g' = g then n else 0 := by
  rw [tallyAt_apply]
  by_cases h : g' = g
  · rw [if_pos ⟨h, rfl⟩, if_pos h]
  · rw [if_neg (fun h' => h h'.1), if_neg h]

theorem O_bar (d c : Dev nD) : O d 0 (barCell c) () = 0 := by
  by_contra h
  obtain ⟨i, -, e⟩ := O_pos (Nat.pos_of_ne_zero h)
  exact rCell_ne_bar e.symm

theorem O_rcv (d c : Dev nD) (i : Fin 30) : O d 0 (rCell c i) () = if nbr d i = c then N else 0 := by
  unfold O
  rw [Finset.sum_apply, Finsupp.finset_sum_apply, Finset.sum_eq_single i]
  · rw [tally_if]
    by_cases h : nbr d i = c
    · rw [if_pos (by rw [h]), if_pos h]
    · rw [if_neg (fun e => h (rCell_inj e).1.symm), if_neg h]
  · intro j _ hj
    rw [tally_if, if_neg (fun e => hj (rCell_inj e).2.symm)]
  · intro h; exact absurd (Finset.mem_filter.2 ⟨Finset.mem_univ i, Nat.zero_le _⟩) h

theorem O₀_at (d : Dev nD) (g : GSem nD τ sig) : O₀ d g () = O d 0 g () + (if g = barCell (rgt d) then 1 else 0) + (if g = barCell (lft d) then 1 else 0) := by
  unfold O₀ O₁
  rw [Pi.add_apply, Finsupp.add_apply, Pi.add_apply, Finsupp.add_apply, tally_if, tally_if]

theorem O₀_bar (d c : Dev nD) : O₀ d (barCell c) () = (if d = lft c then 1 else 0) + (if d = rgt c then 1 else 0) := by
  rw [O₀_at, O_bar, Nat.zero_add]
  congr 1
  · by_cases h : d = lft c
    · subst h; rw [rgt_lft, if_pos rfl, if_pos rfl]
    · rw [if_neg (fun e => h (by rw [cell_dev e, lft_rgt])), if_neg h]
  · by_cases h : d = rgt c
    · subst h; rw [lft_rgt, if_pos rfl, if_pos rfl]
    · rw [if_neg (fun e => h (by rw [cell_dev e, rgt_lft])), if_neg h]

theorem O₀_rcv (d c : Dev nD) (i : Fin 30) : O₀ d (rCell c i) () = if d = (nbrE i).symm c then N else 0 := by
  rw [O₀_at, O_rcv, if_neg rCell_ne_bar, if_neg rCell_ne_bar]
  simp only [Nat.add_zero]
  by_cases h : d = (nbrE i).symm c
  · rw [if_pos h, if_pos (by rw [h, ← nbrE_apply, Equiv.apply_symm_apply])]
  · rw [if_neg h, if_neg (fun e => h (by rw [← e, ← nbrE_apply, Equiv.symm_apply_apply]))]

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib,
    Finset.sum_ite_eq' Finset.univ (lft c) fun _ => 1, Finset.sum_ite_eq' Finset.univ (rgt c) fun _ => 1, if_pos (Finset.mem_univ _), if_pos (Finset.mem_univ _)]

theorem credit_rcv (c : Dev nD) (i : Fin 30) :
    tallyOn (rCell c i) (launchCredit (Pipeline.owing O₀) 0 (rCell c i)) = (tallyAt (rCell c i) () N : CellTallies nD τ sig Unit) := by
  unfold tallyAt; refine congrArg _ (Finsupp.ext fun u => ?_); cases u
  rw [Pipeline.launchCredit_owing, Finsupp.single_eq_same, Finset.sum_congr rfl fun d _ => O₀_rcv d c i,
    Finset.sum_ite_eq' Finset.univ ((nbrE i).symm c) fun _ => N, if_pos (Finset.mem_univ _)]

def waitedSem : Unit ⊕ Fin 30 ↪ SemLoc sig := ⟨fun x => match x with | .inl _ => .reg barS | .inr i => .dma (rSem i), fun x y h => by
  have h' := congrArg kd h
  rcases x with u | i <;> rcases y with v | j
  · rfl
  · exact absurd h' (by simp only [kd_rcv, kd_bar]; simp)
  · exact absurd h' (by simp only [kd_rcv, kd_bar]; simp)
  · simp only [kd_rcv] at h'; injection h' with e; subst e; rfl⟩

theorem credits (c : Dev nD) :
    (Pipeline.launchCred O₀ c : sProp 𝕄) ⊢ iprop(cred (tallyAt (barCell c) () 2) ∗ bigSep Finset.univ fun i : Fin 30 => cred (tallyAt (rCell c i) () N)) := by
  unfold Pipeline.launchCred
  refine BIBase.Entails.trans (bigSep_subset (Finset.subset_univ (Finset.univ.map waitedSem))) ?_
  rw [bigSep_map, bigSep_sum2, bigSep_one]
  refine BIClass.sep_mono (Entails.of_eq ?_) (Entails.of_eq (bigSep_congr fun i _ => ?_))
  · rw [← credit_bar]; rfl
  · rw [← credit_rcv]; rfl

/-! ### The launch's other conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave ⟨H1, HN⟩ := (credits (F := F) c) $$ Hcr
  imodintro
  unfold start G'
  isplitl
  · isplitl [HG]; · iexact HG
    isplitl [H1]; · iexact H1
    isplitl [HN]; · iexact HN
    iexact Hlev
  · iempintro

theorem phi_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, own_is, unscoped_is]
  unfold Φ₁
  iintro ⟨H0, H1, HzB, HzS, HzR⟩
  isplitl [HzB]; · iexact HzB
  isplitl [HzS HzR]
  · isplitl [HzS]; · iexact HzS
    iexact HzR
  isplitl [H0]; · iexact H0
  iexact H1

theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with every counter zero, every fair run of the sixteen devices ends, with each array as computed and
    every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := stage_waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP]; · iexact HP
      iexact HG)
    (hglob := global_step m ρ)
    (hA := fun _ _ => rfl) (hpf := fun _ k => k.elim0)
    (X := start m ρ) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

theorem final_x (c : Dev nD) : finalA m ρ c (0 : Fin 3) = m ((c : Thread nD τ).loc main_arg0) := (dats (F := F) m ρ 0 c).arrAt_in (0 : Fin 3) rfl _
theorem final_w (c : Dev nD) : finalA m ρ c (1 : Fin 3) = m ((c : Thread nD τ).loc main_arg1) := (dats (F := F) m ρ 0 c).arrAt_in (1 : Fin 3) rfl _

end Cert.KernelIdeal.AG

end
-- ==== Proof.Value.lean ====
/-
  What the program computes, at the ideal values: each device's columns of the reference's result.
-/
module

public import proofs.«01_k».proof.Proof.Run
public import proofs.«01_k».proof.Defs
public import proofs.«01_k».proof.Proof.Gen.ReferenceIdeal.Run
public import Idealize.ShloMosaic.Lib.MatmulPlain
public import Idealize.ShloMosaic.Lib.StackMember
public import Idealize.ShloMosaic.Lib.ValueLayout
public import Idealize.ShloMosaic.Lib.Layout
public import Idealize.ShloMosaic.Lib.Quiescent

@[expose] public section

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 idx2_lt0)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The arrays at the end -/

/-- The result array's one block, read after the run, is what the body left in the staging buffer. -/
theorem final_blk (c : Dev nD) : (win0_2.blk (0 : Fin 1)).view.read (Elt F) (finalA m ρ c (2 : Fin 3)) = outT m ρ c := by
  unfold finalA
  rw [show cfg0.N = ((0 : Fin 1) : Fin cfg0.N).val + 1 from rfl, (dats m ρ 0 c).arrAt_succ (2 : Fin 3) (0 : Fin 1),
    if_pos (flush0_2 (0 : Fin 1))]
  exact View.read_write_univ _ _

/-- So the result array holds it whole. -/
theorem final_o (c : Dev nD) : finalA m ρ c (2 : Fin 3) = outT m ρ c :=
  (show (win0_2.blk (0 : Fin 1)).view.read (Elt F) (finalA m ρ c (2 : Fin 3)) = finalA m ρ c (2 : Fin 3) from
    Memref.read_access_unit_zero (Elt F) main_v1 (off := fun a => (win0_2.index (0 : Fin 1)) a * main_v1.ty.shape.size a)
      (funext fun a => by fin_cases a <;> rfl) (fun a => by fin_cases a <;> decide) _).symm.trans (final_blk m ρ c)

/-- The activations' block is the whole argument array. -/
theorem xstg_eq (c : Dev nD) : xstg m ρ c = m ((c : Thread nD τ).loc main_arg0) :=
  Memref.read_access_unit_zero (Elt F) main_arg0 (off := fun a => (win0_0.index (0 : Fin 1)) a * main_arg0.ty.shape.size a)
    (funext fun a => by fin_cases a <;> rfl) (fun a => by fin_cases a <;> decide) _

/-- The weights' block is the whole argument array. -/
theorem wstg_eq (c : Dev nD) : wstg m ρ c = m ((c : Thread nD τ).loc main_arg1) :=
  Memref.read_access_unit_zero (Elt F) main_arg1 (off := fun a => (win0_1.index (0 : Fin 1)) a * main_arg1.ty.shape.size a)
    (funext fun a => by fin_cases a <;> rfl) (fun a => by fin_cases a <;> decide) _

/-! ### The two values at an index -/

/-- One product of a half with the weights, at an index. -/
theorem prod_apply (v : Vec Ideal S1x128x4096 .bf16) (w : Vec Ideal S4096x512 .bf16) (r : Fin 128) (s : Fin 512) :
    prod (F := Ideal) v w (ix2 r s) = max (∑ k : Fin 4096, v (ix3 (0 : Fin 1) r k) * w (ix2 k s)) (Ideal.ofBits .f32 0x00000000#32) := by
  show max (FloatOps.matmul (DotDims.plain 128 4096 512) none (shapeCast S128x4096 v shapeCasts_S1x128x4096_S128x4096) w
    (constant S128x512 .f32 0x00000000#32) (ix2 r s)) (Ideal.ofBits .f32 0x00000000#32) = _
  rw [Ideal.matmul_plain_apply]
  congr 1
  show Ideal.ofBits .f32 0x00000000#32 + _ = _
  rw [Ideal.ofBits_zero_f32, zero_add]
  exact Finset.sum_congr rfl fun k _ => congrArg (· * _) (ValueIdx.shapeCast_1ab_ab_apply (a := 128) (b := 4096) v _ r k)

/-- The reference's result from whole operands. -/
def refOut (X : Cert.ReferenceIdeal.S4096x4096.Idx → EReal) (W : Cert.ReferenceIdeal.S4096x8192.Idx → EReal) :
    Cert.ReferenceIdeal.S4096x8192.Idx → EReal :=
  maximumf (F := Ideal) (φ := .f32) (extf (φ := .bf16) .f32 (truncf (φ := .f32) .bf16 (Host.dotGeneral (F := Ideal) (φ₁ := .bf16) (φ₂ := .bf16)
      Cert.ReferenceIdeal.dot_S4096x4096_S4096x8192_S4096x8192_1_0_0_1_n_n none X W) Cert.ReferenceIdeal.Facts₀.bitsLt_bf16_f32) Cert.ReferenceIdeal.Facts₀.bitsLt_bf16_f32)
    (broadcastInDim Cert.ReferenceIdeal.S4096x8192 ![] Cert.ReferenceIdeal.Facts₀.bcast_S_S4096x8192 (constant Cert.ReferenceIdeal.S_ .f32 0x00000000#32))

/-- It at an index. -/
theorem refOut_apply (X : Cert.ReferenceIdeal.S4096x4096.Idx → EReal) (W : Cert.ReferenceIdeal.S4096x8192.Idx → EReal)
    (r : Fin 4096) (s : Fin 8192) :
    refOut X W (ix2 r s) = max (∑ k : Fin 4096, X (ix2 r k) * W (ix2 k s)) (Ideal.ofBits .f32 0x00000000#32) := by
  show max (Host.dotGeneral (F := Ideal) (φ₁ := .bf16) (φ₂ := .bf16) (DotDims.plain 4096 4096 8192) none X W (ix2 r s)) (Ideal.ofBits .f32 0x00000000#32) = _
  rw [StackMember.dotGeneral_plain_apply]

/-- Each device's result is its columns of the reference's. -/
theorem out_block (m : (ℓ : Loc nD τ sig) → Buf (Elt Ideal) ℓ) (X : (⟨2, ![4096, 4096]⟩ : Shape).Idx → EReal) (W : (⟨2, ![4096, 8192]⟩ : Shape).Idx → EReal)
    (hx : ∀ c : Dev nD, m ((c : Thread nD τ).loc main_arg0) = Layout.block ⟨2, ![256, 4096]⟩ ⟨2, ![4096, 4096]⟩ 0 16 c X)
    (hw : ∀ c : Dev nD, m ((c : Thread nD τ).loc main_arg1) = Layout.block ⟨2, ![4096, 512]⟩ ⟨2, ![4096, 8192]⟩ 1 16 c W)
    (c : Dev nD) :
    outT m ρ c = Layout.block ⟨2, ![4096, 512]⟩ ⟨2, ![4096, 8192]⟩ 1 16 c (refOut X W) := by
  funext i
  have h0 : (i 0).val < 4096 := (i 0).isLt
  have h1 : (i 1).val < 512 := (i 1).isLt
  have hc : c.val < 16 := c.isLt
  unfold outT
  refine (prod_apply _ _ ⟨(i 0).val % 128, by omega⟩ (i 1)).trans ?_
  refine Eq.trans ?_ ((congrArg (refOut X W) (funext fun a => by fin_cases a <;> rfl :
    ix2 (n0 := 4096) (n1 := 8192) (i 0) ⟨c.val * 512 + (i 1).val, by omega⟩ = _)).symm.trans (refOut_apply X W (i 0) ⟨c.val * 512 + (i 1).val, by omega⟩)).symm
  refine congrArg (max · _) (Finset.sum_congr rfl fun k _ => ?_)
  unfold half
  rw [xstg_eq, wstg_eq, hx, hw]
  refine congrArg₂ (· * ·) (congrArg X (funext fun a => Fin.ext ?_)) (congrArg W (funext fun a => Fin.ext ?_))
  · match a with
    | ⟨0, _⟩ =>
      show (i 0).val / 256 * 256 + (128 * ((i 0).val % 256 / 128) + (i 0).val % 128) = (i 0).val
      omega
    | ⟨1, _⟩ => rfl
  · match a with
    | ⟨0, _⟩ => rfl
    | ⟨1, _⟩ => rfl

/-! ### The claims of the ideal reading -/

/-- The program stops, its arguments as they were and every counter at zero. -/
theorem frame_ideal : Cert.quiescent_KernelIdeal := by
  intro m ρ _
  exact (θ_run defs _ _).mono (fun _ h => ⟨fun c => ⟨(h.1 c (0 : Fin 3)).trans (final_x m ρ c), (h.1 c (1 : Fin 3)).trans (final_w m ρ c)⟩, h.2⟩)
    (run_main m ρ)

/-- The reference stops, its arguments as they were. -/
theorem frame_reference : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run m ρ)

/-- The devices' results side by side are the reference's. -/
theorem algebraic : Cert.algebraic_KernelIdeal_ReferenceIdeal := by
  intro m ρ m' ρ' _ hb
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run defs _ _).mono
      (fun _ h c => ⟨((h.1 c (2 : Fin 3)).trans (final_o m ρ c)).trans (out_block ρ m _ _ (fun c => (hb c).1) (fun c => (hb c).2) c),
        (h.1 c (0 : Fin 3)).trans (final_x m ρ c), (h.1 c (1 : Fin 3)).trans (final_w m ρ c)⟩)
      (run_main m ρ)
  · exact (θ_run Cert.ReferenceIdeal.defs _ _).mono (fun _ h => h 0) (Cert.ReferenceIdeal.Value.run m' ρ')

end Cert.KernelIdeal.AG

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Bits.Run
public import Idealize.ShloMosaic.Adequacy
public import Idealize.ShloMosaic.Init

@[expose] public section

noncomputable section

namespace Cert.Proof

open Idealize.ShloMosaic Idealize.SL.Sem Cert.Kernel

/-- The program stops, its arguments as they were and every counter at zero. -/
theorem frame_bits : Cert.quiescent_Kernel := by
  intro m ρ _
  exact (θ_run Cert.Kernel.defs _ _).mono
    (fun _ h => ⟨fun c => ⟨(h.1 c (0 : Fin 3)).trans (AG.final_x m ρ c), (h.1 c (1 : Fin 3)).trans (AG.final_w m ρ c)⟩, h.2⟩)
    (AG.run_main m ρ)

theorem claim : Cert.Claim := ⟨Cert.Kernel.Gen.facts, Cert.KernelIdeal.Gen.facts, Cert.ReferenceIdeal.Gen.facts,
  frame_bits, Cert.KernelIdeal.AG.frame_ideal, Cert.KernelIdeal.AG.frame_reference, trivial, Cert.KernelIdeal.AG.algebraic⟩

end Cert.Proof

end
